-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_rows_in_use [hKernelIdeal : Cert.KernelIdeal.Facts] [hReferenceIdeal : Cert.ReferenceIdeal.Facts] [hPre_tables : Cert.Pre_tables.Facts] [hOn_rows_in_use : Cert.On_rows_in_use.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 40960, 128]⟩ : Shape).Idx, (Cert.On_rows_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 40960, 128]⟩ : Shape).Idx, (Cert.On_rows_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v18) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tables : Cert.Pre_tables.Facts) (hOn_rows_in_use : Cert.On_rows_in_use.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ preserves_Kernel_KernelIdeal
    ∧ algebraic_KernelIdeal_ReferenceIdeal_on_rows_in_use (hKernelIdeal := hKernelIdeal) (hReferenceIdeal := hReferenceIdeal) (hPre_tables := hPre_tables) (hOn_rows_in_use := hOn_rows_in_use)
-- ==== On_rows_in_use.lean ====
abbrev S2x256 : Shape := ⟨2, ![2, 256]⟩
abbrev S4x40960x128 : Shape := ⟨3, ![4, 40960, 128]⟩
abbrev S2x328x128 : Shape := ⟨3, ![2, 328, 128]⟩
abbrev S32x2048x2048 : Shape := ⟨3, ![32, 2048, 2048]⟩
abbrev S32x1x2048 : Shape := ⟨3, ![32, 1, 2048]⟩
abbrev S32x1024x2048 : Shape := ⟨3, ![32, 1024, 2048]⟩
abbrev S16x40960x128 : Shape := ⟨3, ![16, 40960, 128]⟩
abbrev S1x1 : Shape := ⟨2, ![1, 1]⟩
abbrev S_ : Shape := ⟨0, ![]⟩

class Facts : Prop where
  slices_S2x256_S1x1_1_0 : S2x256.Slices ![1, 0] S1x1
  shapeCasts_S1x1_S_ : S1x1.ShapeCasts S_
  bcast_S_S16x40960x128 : S_.BroadcastsInDim S16x40960x128 (![] : Fin 0 → Fin S16x40960x128.rank)

variable [Facts]

def fn {F : FTy → Type} [FloatOps F] (main_arg0 : IVec S2x256 32) (main_arg1 : IVec S4x40960x128 32) (main_arg2 : FVec F S2x328x128 .f32) (main_arg3 : FVec F S32x2048x2048 .fp8e4m3) (main_arg4 : FVec F S32x1x2048 .f32) (main_arg5 : FVec F S32x1024x2048 .fp8e4m3) (main_arg6 : FVec F S32x1x2048 .f32) : IVec S16x40960x128 1 :=
  let main_v0 : IVec S16x40960x128 32 := iotaInDim S16x40960x128 32 1
  let main_v1 : IVec S1x1 32 := (extractStridedSlice S1x1 ![1, 0] · slices_S2x256_S1x1_1_0) main_arg0
  let main_v2 : IVec S_ 32 := shapeCast S_ main_v1 shapeCasts_S1x1_S_
  let main_c : IVec S_ 32 := constantI S_ 32 160#32
  let main_v3 : IVec S_ 32 := minsi main_v2 main_c
  let main_c_0 : IVec S_ 32 := constantI S_ 32 256#32
  let main_v4 : IVec S_ 32 := muli main_v3 main_c_0
  let main_v5 : IVec S16x40960x128 32 := broadcastInDim S16x40960x128 ![] bcast_S_S16x40960x128 main_v4
  let main_v6 : IVec S16x40960x128 1 := cmpi .slt main_v0 main_v5
  main_v6
-- ==== Pre_tables.lean ====
abbrev S2x256 : Shape := ⟨2, ![2, 256]⟩
abbrev S4x40960x128 : Shape := ⟨3, ![4, 40960, 128]⟩
abbrev S2x328x128 : Shape := ⟨3, ![2, 328, 128]⟩
abbrev S32x2048x2048 : Shape := ⟨3, ![32, 2048, 2048]⟩
abbrev S32x1x2048 : Shape := ⟨3, ![32, 1, 2048]⟩
abbrev S32x1024x2048 : Shape := ⟨3, ![32, 1024, 2048]⟩
abbrev S1x160 : Shape := ⟨2, ![1, 160]⟩
abbrev S160 : Shape := ⟨1, ![160]⟩
abbrev S_ : Shape := ⟨0, ![]⟩
abbrev S1x1 : Shape := ⟨2, ![1, 1]⟩

class Facts : Prop where
  slices_S2x256_S1x160_0_0 : S2x256.Slices ![0, 0] S1x160
  shapeCasts_S1x160_S160 : S1x160.ShapeCasts S160
  bcast_S_S160 : S_.BroadcastsInDim S160 (![] : Fin 0 → Fin S160.rank)
  reducesTo_S160_S_d0 : S160.ReducesTo [0] S_
  h_S_ : 0 < S_.numel
  slices_S2x256_S1x1_1_0 : S2x256.Slices ![1, 0] S1x1
  shapeCasts_S1x1_S_ : S1x1.ShapeCasts S_

variable [Facts]

def fn {F : FTy → Type} [FloatOps F] (main_arg0 : IVec S2x256 32) (main_arg1 : IVec S4x40960x128 32) (main_arg2 : FVec F S2x328x128 .f32) (main_arg3 : FVec F S32x2048x2048 .fp8e4m3) (main_arg4 : FVec F S32x1x2048 .f32) (main_arg5 : FVec F S32x1024x2048 .fp8e4m3) (main_arg6 : FVec F S32x1x2048 .f32) : IVec S_ 1 :=
  let main_v0 : IVec S1x160 32 := (extractStridedSlice S1x160 ![0, 0] · slices_S2x256_S1x160_0_0) main_arg0
  let main_v1 : IVec S160 32 := shapeCast S160 main_v0 shapeCasts_S1x160_S160
  let main_c : IVec S_ 32 := constantI S_ 32 0#32
  let main_v2 : IVec S160 32 := broadcastInDim S160 ![] bcast_S_S160 main_c
  let main_v3 : IVec S160 1 := cmpi .sge main_v1 main_v2
  let main_c_0 : IVec S_ 32 := constantI S_ 32 32#32
  let main_v4 : IVec S160 32 := broadcastInDim S160 ![] bcast_S_S160 main_c_0
  let main_v5 : IVec S160 1 := cmpi .slt main_v1 main_v4
  let main_v6 : IVec S160 1 := andi main_v3 main_v5
  let main_c_1 : IVec S_ 1 := constantI S_ 1 1#1
  let main_v7 : IVec S_ 1 := (fun x v => Host.reduce IntOp.andi x v reducesTo_S160_S_d0 h_S_) main_v6 main_c_1
  let main_v8 : IVec S1x1 32 := (extractStridedSlice S1x1 ![1, 0] · slices_S2x256_S1x1_1_0) main_arg0
  let main_v9 : IVec S_ 32 := shapeCast S_ main_v8 shapeCasts_S1x1_S_
  let main_c_2 : IVec S_ 32 := constantI S_ 32 1#32
  let main_v10 : IVec S_ 1 := cmpi .sge main_v9 main_c_2
  let main_v11 : IVec S_ 1 := andi main_v7 main_v10
  main_v11
-- ==== Kernel.lean ====
abbrev S2x256 : Shape := ⟨2, ![2, 256]⟩
abbrev S4x40960x128 : Shape := ⟨3, ![4, 40960, 128]⟩
abbrev S2x328x128 : Shape := ⟨3, ![2, 328, 128]⟩
abbrev S32x2048x2048 : Shape := ⟨3, ![32, 2048, 2048]⟩
abbrev S32x1x2048 : Shape := ⟨3, ![32, 1, 2048]⟩
abbrev S32x1024x2048 : Shape := ⟨3, ![32, 1024, 2048]⟩
abbrev S16x40960x128 : Shape := ⟨3, ![16, 40960, 128]⟩
abbrev S4x256x128 : Shape := ⟨3, ![4, 256, 128]⟩
abbrev S1x1 : Shape := ⟨2, ![1, 1]⟩
abbrev S1x2048x2048 : Shape := ⟨3, ![1, 2048, 2048]⟩
abbrev S1x1x2048 : Shape := ⟨3, ![1, 1, 2048]⟩
abbrev S1x1024x2048 : Shape := ⟨3, ![1, 1024, 2048]⟩
abbrev S16x256x128 : Shape := ⟨3, ![16, 256, 128]⟩
abbrev S256x2048 : Shape := ⟨2, ![256, 2048]⟩
abbrev S1x256x128 : Shape := ⟨3, ![1, 256, 128]⟩
abbrev S256x128 : Shape := ⟨2, ![256, 128]⟩
abbrev S1x328x128 : Shape := ⟨3, ![1, 328, 128]⟩
abbrev S328x128 : Shape := ⟨2, ![328, 128]⟩
abbrev S8x128 : Shape := ⟨2, ![8, 128]⟩
abbrev S128x8 : Shape := ⟨2, ![128, 8]⟩
abbrev S128x1 : Shape := ⟨2, ![128, 1]⟩
abbrev S256x1 : Shape := ⟨2, ![256, 1]⟩
abbrev S2048x2048 : Shape := ⟨2, ![2048, 2048]⟩
abbrev S1x2048 : Shape := ⟨2, ![1, 2048]⟩
abbrev S256x1024 : Shape := ⟨2, ![256, 1024]⟩
abbrev S256 : Shape := ⟨1, ![256]⟩
abbrev S1024x2048 : Shape := ⟨2, ![1024, 2048]⟩

abbrev nBuf : Space → Nat
  | .hbm => 7
  | .vmem => 14
  | .smem => 1
  | _ => 0

abbrev bufTy : (tb : Table) → Fin (tcTables nBuf tb) → BufTy
  | .hbm, ⟨0, _⟩ => ⟨S4x40960x128, .i32⟩
  | .hbm, ⟨1, _⟩ => ⟨S2x328x128, .f32⟩
  | .hbm, ⟨2, _⟩ => ⟨S32x2048x2048, .fp8e4m3⟩
  | .hbm, ⟨3, _⟩ => ⟨S32x1x2048, .f32⟩
  | .hbm, ⟨4, _⟩ => ⟨S32x1024x2048, .fp8e4m3⟩
  | .hbm, ⟨5, _⟩ => ⟨S32x1x2048, .f32⟩
  | .hbm, ⟨6, _⟩ => ⟨S16x40960x128, .f32⟩
  | .local _ .vmem, ⟨0, _⟩ => ⟨S4x256x128, .i32⟩
  | .local _ .vmem, ⟨1, _⟩ => ⟨S4x256x128, .i32⟩
  | .local _ .vmem, ⟨2, _⟩ => ⟨S2x328x128, .f32⟩
  | .local _ .vmem, ⟨3, _⟩ => ⟨S1x2048x2048, .fp8e4m3⟩
  | .local _ .vmem, ⟨4, _⟩ => ⟨S1x2048x2048, .fp8e4m3⟩
  | .local _ .vmem, ⟨5, _⟩ => ⟨S1x1x2048, .f32⟩
  | .local _ .vmem, ⟨6, _⟩ => ⟨S1x1x2048, .f32⟩
  | .local _ .vmem, ⟨7, _⟩ => ⟨S1x1024x2048, .fp8e4m3⟩
  | .local _ .vmem, ⟨8, _⟩ => ⟨S1x1024x2048, .fp8e4m3⟩
  | .local _ .vmem, ⟨9, _⟩ => ⟨S1x1x2048, .f32⟩
  | .local _ .vmem, ⟨10, _⟩ => ⟨S1x1x2048, .f32⟩
  | .local _ .vmem, ⟨11, _⟩ => ⟨S16x256x128, .f32⟩
  | .local _ .vmem, ⟨12, _⟩ => ⟨S16x256x128, .f32⟩
  | .local _ .vmem, ⟨13, _⟩ => ⟨S256x2048, .fp8e4m3⟩
  | .local _ .smem, ⟨0, _⟩ => ⟨S2x256, .i32⟩
  | _, _ => ⟨S4x40960x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![160], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let arg0 : BitVec 32 := BitVec.ofNat 32 (i 0).val
  let c2_i32 : BitVec 32 := 2#32
  let v116 : BitVec 32 := Scalar.muli arg0 c2_i32
  let v119 : Index := Scalar.indexCast v116
  let c0_39 : Index := 0#32
  ![v119.toNat, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S2x256_S1x1_1_0 : ∀ a, (![1, 0] : Fin 2 → Nat) a + S1x1.size a ≤ S2x256.size a) (numel1_S1x1 : S1x1.numel = 1) (pf : pre0.Contents (Elt F)) (i : grid0.Coords) : Fin 3 → Nat :=
  let arg0 : BitVec 32 := BitVec.ofNat 32 (i 0).val
  let c1 : Index := 1#32
  let c0 : Index := 0#32
  let v0 : BitVec 32 := pf.at 0 (Rect.unit (s := S2x256) ![1, 0] S1x1.size inb_S2x256_S1x1_1_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (k0_off1_inb : ∀ i : grid0.Coords, ∀ a, (k0_off1 i) a + S1x1.size a ≤ S2x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1x1.size a ≤ S2x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S2x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1x1.size a ≤ S2x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (inb_S2x256_S1x1_1_0 : ∀ a, (![1, 0] : Fin 2 → Nat) a + S1x1.size a ≤ S2x256.size a) (numel1_S1x1 : S1x1.numel = 1) (pf : pre0.Contents (Elt F)) (i : grid0.Coords) : Fin 3 → Nat :=
  let arg0 : BitVec 32 := BitVec.ofNat 32 (i 0).val
  let c1 : Index := 1#32
  let c0 : Index := 0#32
  let v0 : BitVec 32 := pf.at 0 (Rect.unit (s := S2x256) ![1, 0] S1x1.size inb_S2x256_S1x1_1_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S4x256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x328x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x256 : Shape := ⟨2, ![2, 256]⟩
abbrev S4x40960x128 : Shape := ⟨3, ![4, 40960, 128]⟩
abbrev S2x328x128 : Shape := ⟨3, ![2, 328, 128]⟩
abbrev S32x2048x2048 : Shape := ⟨3, ![32, 2048, 2048]⟩
abbrev S32x1x2048 : Shape := ⟨3, ![32, 1, 2048]⟩
abbrev S32x1024x2048 : Shape := ⟨3, ![32, 1024, 2048]⟩
abbrev S1x160 : Shape := ⟨2, ![1, 160]⟩
abbrev S160 : Shape := ⟨1, ![160]⟩
abbrev S160x256 : Shape := ⟨2, ![160, 256]⟩
abbrev S40960 : Shape := ⟨1, ![40960]⟩
abbrev S40960x1 : Shape := ⟨2, ![40960, 1]⟩
abbrev S4x40960x128x4 : Shape := ⟨4, ![4, 40960, 128, 4]⟩
abbrev S40960x4x4x128 : Shape := ⟨4, ![40960, 4, 4, 128]⟩
abbrev S40960x2048 : Shape := ⟨2, ![40960, 2048]⟩
abbrev S1x328x128 : Shape := ⟨3, ![1, 328, 128]⟩
abbrev S328x128 : Shape := ⟨2, ![328, 128]⟩
abbrev S41984 : Shape := ⟨1, ![41984]⟩
abbrev S16x40960x128 : Shape := ⟨3, ![16, 40960, 128]⟩
abbrev S1x2048x2048 : Shape := ⟨3, ![1, 2048, 2048]⟩
abbrev S2048x2048 : Shape := ⟨2, ![2048, 2048]⟩
abbrev S1x1x2048 : Shape := ⟨3, ![1, 1, 2048]⟩
abbrev S1x2048 : Shape := ⟨2, ![1, 2048]⟩
abbrev S40960x1024 : Shape := ⟨2, ![40960, 1024]⟩
abbrev S1x246 : Shape := ⟨2, ![1, 246]⟩
abbrev S40960x246 : Shape := ⟨2, ![40960, 246]⟩
abbrev S1x1024x2048 : Shape := ⟨3, ![1, 1024, 2048]⟩
abbrev S1024x2048 : Shape := ⟨2, ![1024, 2048]⟩
abbrev S40960x128 : Shape := ⟨2, ![40960, 128]⟩
abbrev S1x40960x128 : Shape := ⟨3, ![1, 40960, 128]⟩

abbrev nBuf : Space → Nat
  | .hbm => 26
  | .vmem => 9
  | .smem => 0
  | _ => 0

abbrev bufTy : (tb : Table) → Fin (tcTables nBuf tb) → BufTy
  | .hbm, ⟨0, _⟩ => ⟨S2x256, .i32⟩
  | .hbm, ⟨1, _⟩ => ⟨S4x40960x128, .i32⟩
  | .hbm, ⟨2, _⟩ => ⟨S2x328x128, .f32⟩
  | .hbm, ⟨3, _⟩ => ⟨S32x2048x2048, .fp8e4m3⟩
  | .hbm, ⟨4, _⟩ => ⟨S32x1x2048, .f32⟩
  | .hbm, ⟨5, _⟩ => ⟨S32x1024x2048, .fp8e4m3⟩
  | .hbm, ⟨6, _⟩ => ⟨S32x1x2048, .f32⟩
  | .hbm, ⟨7, _⟩ => ⟨S1x160, .i32⟩
  | .hbm, ⟨8, _⟩ => ⟨S160, .i32⟩
  | .hbm, ⟨9, _⟩ => ⟨S160x256, .i32⟩
  | .hbm, ⟨10, _⟩ => ⟨S40960, .i32⟩
  | .hbm, ⟨11, _⟩ => ⟨S40960x1, .i32⟩
  | .hbm, ⟨12, _⟩ => ⟨S4x40960x128x4, .i8⟩
  | .hbm, ⟨13, _⟩ => ⟨S40960x4x4x128, .i8⟩
  | .hbm, ⟨14, _⟩ => ⟨S40960x2048, .i8⟩
  | .hbm, ⟨15, _⟩ => ⟨S1x328x128, .f32⟩
  | .hbm, ⟨16, _⟩ => ⟨S328x128, .f32⟩
  | .hbm, ⟨17, _⟩ => ⟨S41984, .f32⟩
  | .hbm, ⟨18, _⟩ => ⟨S40960, .f32⟩
  | .hbm, ⟨19, _⟩ => ⟨S40960x1, .f32⟩
  | .hbm, ⟨20, _⟩ => ⟨S1x328x128, .f32⟩
  | .hbm, ⟨21, _⟩ => ⟨S328x128, .f32⟩
  | .hbm, ⟨22, _⟩ => ⟨S41984, .f32⟩
  | .hbm, ⟨23, _⟩ => ⟨S40960, .f32⟩
  | .hbm, ⟨24, _⟩ => ⟨S40960x1, .f32⟩
  | .hbm, ⟨25, _⟩ => ⟨S16x40960x128, .f32⟩
  | .local _ .vmem, ⟨0, _⟩ => ⟨S40960x1, .i32⟩
  | .local _ .vmem, ⟨1, _⟩ => ⟨S40960x2048, .i8⟩
  | .local _ .vmem, ⟨2, _⟩ => ⟨S40960x1, .f32⟩
  | .local _ .vmem, ⟨3, _⟩ => ⟨S40960x1, .f32⟩
  | .local _ .vmem, ⟨4, _⟩ => ⟨S32x2048x2048, .fp8e4m3⟩
  | .local _ .vmem, ⟨5, _⟩ => ⟨S32x1x2048, .f32⟩
  | .local _ .vmem, ⟨6, _⟩ => ⟨S32x1024x2048, .fp8e4m3⟩
  | .local _ .vmem, ⟨7, _⟩ => ⟨S32x1x2048, .f32⟩
  | .local _ .vmem, ⟨8, _⟩ => ⟨S16x40960x128, .f32⟩
  | _, _ => ⟨S2x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S40960x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40960x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40960x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40960x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2048x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x40960x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Table.lean ====
/-
  The table the kernel prefetches: row 0 names an expert per tile, the first word of row 1 counts the tiles in use.
  `Good T` is what the precondition gives of its contents `T`; the lemmas below read the kernel's own word arithmetic
  (a tile's number compared with the count, and clamped below it) as arithmetic of naturals.
-/
module

public import proofs.«01_k».proof.Defs
public import proofs.«01_k».proof.Proof.Gen.Pre_tables
public import Idealize.ShloMosaic.Lib.ValueIdxCoords
public import Idealize.ShloMosaic.Lib.ReduceAll
public import Idealize.ShloMosaic.Lib.Pipeline.Value
public import Idealize.ShloMosaic.Lib.Affine

@[expose] public section

namespace Cert.Table

open Idealize.ShloMosaic Idealize.ShloMosaic.ValueIdx

/-- The table's shape. -/
abbrev TS : Shape := ⟨2, ![2, 256]⟩

/-- The expert of each of the 160 tiles is one of the 32, and the count is a positive signed word. -/
structure Good (T : TS.Idx → BitVec 32) : Prop where
  expert : ∀ j : Fin 256, j.val < 160 → (T (ix2 0 j)).toNat < 32
  pos : 1 ≤ (T (ix2 1 0)).toNat
  small : (T (ix2 1 0)).toNat < 2 ^ 31

/-- The contents the kernel is proved at. -/
abbrev Tab : Type := {T : TS.Idx → BitVec 32 // Good T}

/-- How many tiles are in use: the count, or all 160 if it is more. -/
def Tab.n (ch : Tab) : ℕ := min (ch.1 (ix2 1 0)).toNat 160

theorem Tab.n_pos (ch : Tab) : 1 ≤ ch.n := le_min ch.2.pos (by decide)
theorem Tab.n_le (ch : Tab) : ch.n ≤ 160 := min_le_right _ _

/-- The number of the expert of tile `j`. -/
def Tab.e (ch : Tab) (j : Fin 256) : ℕ := (ch.1 (ix2 0 j)).toNat

theorem Tab.e_lt (ch : Tab) (j : Fin 256) (h : j.val < 160) : ch.e j < 32 := ch.2.expert j h

/-- A word below `2³¹` read as signed is itself. -/
theorem toInt_small {w : BitVec 32} (h : w.toNat < 2 ^ 31) : w.toInt = w.toNat := by
  rw [BitVec.toInt_eq_toNat_of_lt]; omega

/-- Signed order of two small words. -/
theorem slt_small {x y : BitVec 32} (hx : x.toNat < 2 ^ 31) (hy : y.toNat < 2 ^ 31) :
    x.slt y = decide (x.toNat < y.toNat) := by
  rw [BitVec.slt, toInt_small hx, toInt_small hy]; simp

/-- A tile's number clamped below the count. -/
theorem clamp_toNat {k : ℕ} {w : BitVec 32} (hk : k < 160) (h1 : 1 ≤ w.toNat) (h2 : w.toNat < 2 ^ 31) :
    (Scalar.minsi (BitVec.ofNat 32 k) (Scalar.subi w 1#32)).toNat = min k (min w.toNat 160 - 1) := by
  have hs : (w - 1#32).toNat = w.toNat - 1 := by
    rw [BitVec.toNat_sub_of_le] <;> simp [BitVec.le_def]; omega
  have hk' : (BitVec.ofNat 32 k).toNat = k := by rw [BitVec.toNat_ofNat]; omega
  show (IntOp.minsi _ (IntOp.subi w 1#32)).toNat = _
  unfold IntOp.minsi IntOp.subi
  rw [slt_small (by omega) (by omega), hs, hk']
  by_cases h : k < w.toNat - 1
  · rw [if_pos (by simpa using h), hk']; omega
  · rw [if_neg (by simpa using h), hs]; omega

/-- A count cut at 160. -/
theorem cut_toNat {w : BitVec 32} (h : w.toNat < 2 ^ 31) : (IntOp.minsi w 160#32).toNat = min w.toNat 160 := by
  have e : (160#32 : BitVec 32).toNat = 160 := rfl
  unfold IntOp.minsi
  rw [slt_small h (by omega), e]
  by_cases h : w.toNat < 160
  · rw [if_pos (by simpa using h)]; omega
  · rw [if_neg (by simpa using h)]; omega

/-- The kernel's test of a tile's number against the count. -/
theorem cond_iff {k : ℕ} {w : BitVec 32} (hk : k < 160) (h2 : w.toNat < 2 ^ 31) :
    Scalar.cmpi .ne (Scalar.extui (Scalar.cmpi .slt (BitVec.ofNat 32 k) w)) 0#32 = 1#1 ↔ k < min w.toNat 160 := by
  have hk' : (BitVec.ofNat 32 k).toNat = k := by rw [BitVec.toNat_ofNat]; omega
  have e : (BitVec.ofNat 32 k).slt w = decide (k < w.toNat) := by
    rw [slt_small (by omega) (by omega), hk']
  show IntOp.cmpi .ne ((IntOp.cmpi .slt _ w).setWidth 32) 0#32 = 1#1 ↔ _
  rw [show k < min w.toNat 160 ↔ k < w.toNat by omega]
  simp only [IntOp.cmpi, e]
  by_cases h : k < w.toNat
  · simp [h]
  · simp [h]

instance : Subsingleton (⟨0, ![]⟩ : Shape).Idx := ⟨fun a b => funext fun i => i.elim0⟩

/-- The count as the printed predicates read it: the slice of the one word, reshaped to a scalar. -/
theorem count_read {x0 : TS.Idx → BitVec 32} (hs : TS.Slices ![1, 0] (⟨2, ![1, 1]⟩ : Shape))
    (hc : (⟨2, ![1, 1]⟩ : Shape).ShapeCasts (⟨0, ![]⟩ : Shape)) (j : (⟨0, ![]⟩ : Shape).Idx) :
    shapeCast (⟨0, ![]⟩ : Shape) (extractStridedSlice (⟨2, ![1, 1]⟩ : Shape) ![1, 0] x0 hs) hc j = x0 (ix2 1 0) := by
  unfold shapeCast extractStridedSlice
  refine congrArg x0 (funext fun a => ?_)
  match a with
  | ⟨0, _⟩ => exact Fin.ext (by show 1 + _ = 1; have := (Shape.reshapeEquiv hc j 0).isLt; show 1 + (Shape.reshapeEquiv hc j 0).val = 1; have h : (Shape.reshapeEquiv hc j 0).val < 1 := this; omega)
  | ⟨1, _⟩ => exact Fin.ext (by show 0 + _ = 0; have := (Shape.reshapeEquiv hc j 1).isLt; show 0 + (Shape.reshapeEquiv hc j 1).val = 0; have h : (Shape.reshapeEquiv hc j 1).val < 1 := this; omega)

/-- The experts of the tiles as the printed predicate reads them: the head of row 0 of the table as a vector. -/
theorem expert_read {x0 : TS.Idx → BitVec 32} (hs : TS.Slices ![0, 0] (⟨2, ![1, 160]⟩ : Shape))
    (hc : (⟨2, ![1, 160]⟩ : Shape).ShapeCasts (⟨1, ![160]⟩ : Shape)) (j : Fin 160) :
    shapeCast (⟨1, ![160]⟩ : Shape) (extractStridedSlice (⟨2, ![1, 160]⟩ : Shape) ![0, 0] x0 hs) hc (ix1 j) = x0 (ix2 0 ⟨j.val, by omega⟩) := by
  rw [shapeCast_apply _ hc (ix1 j) (ix2 0 j) (by
    rw [Shape.rowMajor_val_two, Shape.rowMajor_val_one]; show 0 * 160 + j.val = j.val; omega)]
  unfold extractStridedSlice
  refine congrArg x0 (funext fun a => ?_)
  match a with
  | ⟨0, _⟩ => rfl
  | ⟨1, _⟩ => exact Fin.ext (by show 0 + j.val = j.val; omega)

/-- A word between two nonnegative signed bounds, as a natural. -/
theorem toNat_of_bounds {w : BitVec 32} (h0 : 0 ≤ w.toInt) : (w.toNat : ℤ) = w.toInt := by
  rw [BitVec.toInt_eq_toNat_cond] at *
  split_ifs at * <;> omega

/-- What the printed precondition says of the table: it is good. -/
theorem good_of_pre {F : FTy → Type} [FloatOps F] {x0 : TS.Idx → BitVec 32} {x1 x2 x3 x4 x5 x6}
    (h : Cert.Pre_tables.fn (F := F) x0 x1 x2 x3 x4 x5 x6 = fun _ => 1#1) : Good x0 := by
  have h0 := congrFun h (fun a => a.elim0)
  unfold Cert.Pre_tables.fn at h0
  dsimp only at h0
  obtain ⟨hall, hge⟩ := IntOp.andi_eq_one.1 h0
  have hge' := IntOp.cmpi_sge.1 hge
  rw [count_read] at hge'
  change (1#32).toInt ≤ _ at hge'
  have e1 : (1#32).toInt = 1 := by decide
  rw [e1] at hge'
  have hn := toNat_of_bounds (w := x0 (ix2 1 0)) (by omega)
  refine ⟨fun j h160 => ?_, by omega, by have := BitVec.toInt_lt (x := x0 (ix2 1 0)); omega⟩
  have hj := Host.reduce_andi_all _ _ _ _ _ hall (ix1 ⟨j.val, h160⟩)
  obtain ⟨ha, hb⟩ := IntOp.andi_eq_one.1 hj
  have ha' := IntOp.cmpi_sge.1 ha
  have hb' := IntOp.cmpi_slt.1 hb
  rw [expert_read] at ha' hb'
  change (0#32).toInt ≤ _ at ha'
  change _ < (32#32).toInt at hb'
  have e3 : (0#32).toInt = 0 := by decide
  have e4 : (32#32).toInt = 32 := by decide
  rw [e3] at ha'; rw [e4] at hb'
  have hn : ((x0 (ix2 0 j)).toNat : ℤ) = (x0 (ix2 0 j)).toInt := toNat_of_bounds ha'
  change (x0 (ix2 0 j)).toInt < 32 at hb'
  omega

end Cert.Table
-- ==== Proof.K.Tables.lean ====
/-
  The kernel's pipeline at any good table: every block it names is inside its array, a tile in use is computed, a tile
  past the count is idle, and the output block of a tile in use is written back at once except the last one's, which
  stays in its buffer until the grid ends.
-/
module

public import proofs.«01_k».proof.Proof.Table
public import proofs.«01_k».proof.Proof.Gen.Kernel.Skeleton
public import proofs.«01_k».proof.Proof.Gen.Kernel.Launch
public import proofs.«01_k».proof.Proof.Gen.Kernel.Flash.Runs
public import Idealize.ShloMosaic.Lib.Pipeline.Kit
public import Idealize.ShloMosaic.Lib.Pipeline.TableIdle
public import Idealize.ShloMosaic.Lib.Affine

@[expose] public section

set_option maxRecDepth 16384

noncomputable section

namespace Cert.Kernel.Run

open Cert.Kernel Cert.Kernel.Gen
open Idealize.ShloMosaic Idealize.ShloMosaic.ValueIdx
open Cert.Table

/-- The prefetched table's contents, as the pipeline takes them. -/
def pfN (ch : Tab) : pre0.Contents (Elt Bits) := fun | ⟨0, _⟩ => ch.1 | ⟨_ + 1, h⟩ => absurd h (by simp)

/-- The count, as the index maps read it. -/
theorem at_count (ch : Tab) :
    (pfN ch).at 0 (Rect.unit (s := S2x256) ![1, 0] S1x1.size inb_S2x256_S1x1_1_0) numel1_S1x1 = ch.1 (ix2 1 0) := by
  show ch.1 _ = ch.1 _
  refine congrArg ch.1 (funext fun a => ?_)
  match a with
  | ⟨0, _⟩ => exact Fin.ext rfl
  | ⟨1, _⟩ => exact Fin.ext rfl

/-- The expert of the tile at a grid point, as the index maps read it. -/
theorem at_expert (ch : Tab) (i : grid0.Coords) (h : ∀ a, (k0_off1 i) a + S1x1.size a ≤ S2x256.size a) :
    (pfN ch).at 0 (Rect.unit (s := S2x256) (k0_off1 i) S1x1.size h) numel1_S1x1
      = ch.1 (ix2 0 ⟨(i 0).val, Nat.lt_trans (i 0).isLt (by decide)⟩) := by
  show ch.1 _ = ch.1 _
  refine congrArg ch.1 (funext fun a => ?_)
  have hi : (i 0).val < 160 := (i 0).isLt
  have e : (Scalar.indexCast (BitVec.ofNat 32 (i 0).val)).toNat = (i 0).val := by
    show (BitVec.ofNat 32 (i 0).val).toNat = _
    rw [BitVec.toNat_ofNat]; omega
  match a with
  | ⟨0, _⟩ => exact Fin.ext rfl
  | ⟨1, _⟩ => exact Fin.ext (by show (Scalar.indexCast (BitVec.ofNat 32 (i 0).val)).toNat + 0 = (i 0).val; omega)

/-- The row blocks' index map: the tile's number, clamped to the last tile in use. -/
theorem rows_at (ch : Tab) (i : grid0.Coords) :
    cc0_transform_6 inb_S2x256_S1x1_1_0 numel1_S1x1 (pfN ch) i = ![0, min (i 0).val (ch.n - 1), 0] := by
  unfold cc0_transform_6
  dsimp only
  rw [at_count, clamp_toNat (i 0).isLt ch.2.pos ch.2.small]
  rfl

/-- The input rows' index map is the output's. -/
theorem rows_at0 (ch : Tab) (i : grid0.Coords) :
    cc0_transform_0 inb_S2x256_S1x1_1_0 numel1_S1x1 (pfN ch) i = ![0, min (i 0).val (ch.n - 1), 0] := rows_at ch i

/-- The weights' index map: the tile's expert. -/
theorem expert_at (ch : Tab) (i : grid0.Coords) :
    cc0_transform_2 k0_off1_inb numel1_S1x1 (pfN ch) i
      = ![ch.e ⟨(i 0).val, Nat.lt_trans (i 0).isLt (by decide)⟩, 0, 0] := by
  unfold cc0_transform_2
  dsimp only
  rw [show (pfN ch).at 0 (Rect.unit (s := S2x256) ![0, (Scalar.indexCast (BitVec.ofNat 32 (i 0).val)).toNat] S1x1.size (k0_off1_inb i)) numel1_S1x1 = _ from at_expert ch i (k0_off1_inb i)]
  rfl
theorem expert_at3 (ch : Tab) (i : grid0.Coords) :
    cc0_transform_3 k0_off1_inb numel1_S1x1 (pfN ch) i
      = ![ch.e ⟨(i 0).val, Nat.lt_trans (i 0).isLt (by decide)⟩, 0, 0] := expert_at ch i
theorem expert_at4 (ch : Tab) (i : grid0.Coords) :
    cc0_transform_4 k0_off1_inb numel1_S1x1 (pfN ch) i
      = ![ch.e ⟨(i 0).val, Nat.lt_trans (i 0).isLt (by decide)⟩, 0, 0] := expert_at ch i
theorem expert_at5 (ch : Tab) (i : grid0.Coords) :
    cc0_transform_5 k0_off1_inb numel1_S1x1 (pfN ch) i
      = ![ch.e ⟨(i 0).val, Nat.lt_trans (i 0).isLt (by decide)⟩, 0, 0] := expert_at ch i

theorem ok_rows (ch : Tab) (i : grid0.Coords) (p : ℕ) : ∀ a : Fin 3,
    ((![0, min (i 0).val (ch.n - 1), 0] : Fin 3 → ℕ) a + 1) * (![p, 256, 128] : Fin 3 → ℕ) a ≤ (![p, 40960, 128] : Fin 3 → ℕ) a := by
  have h := ch.n_le
  have hi : (i 0).val < 160 := (i 0).isLt
  intro a
  match a with
  | ⟨0, _⟩ => show (0 + 1) * p ≤ p; omega
  | ⟨1, _⟩ => show (min (i 0).val (ch.n - 1) + 1) * 256 ≤ 40960; omega
  | ⟨2, _⟩ => show (0 + 1) * 128 ≤ 128; omega

theorem ok_expert (ch : Tab) (j : Fin 256) (hj : j.val < 160) (p q : ℕ) : ∀ a : Fin 3,
    ((![ch.e j, 0, 0] : Fin 3 → ℕ) a + 1) * (![1, p, q] : Fin 3 → ℕ) a ≤ (![32, p, q] : Fin 3 → ℕ) a := by
  have h := ch.e_lt j hj
  intro a
  match a with
  | ⟨0, _⟩ => show (ch.e j + 1) * 1 ≤ 32; omega
  | ⟨1, _⟩ => show (0 + 1) * p ≤ p; omega
  | ⟨2, _⟩ => show (0 + 1) * q ≤ q; omega

/-- Every block lies inside its array. -/
theorem ok_pfN (ch : Tab) : ok0 (F := Bits) (pfN ch) :=
  ⟨fun i => ⟨by rw [rows_at0]; exact ok_rows ch i 4, .inl rfl⟩,
   fun i => ⟨by rw [expert_at]; exact ok_expert ch _ (i 0).isLt 2048 2048, .inr (Affine.block_words_dvd (s := S32x2048x2048) (p := EltTy.packing .fp8e4m3) (by decide) (by decide))⟩,
   fun i => ⟨by rw [expert_at3]; exact ok_expert ch _ (i 0).isLt 1 2048, .inl rfl⟩,
   fun i => ⟨by rw [expert_at4]; exact ok_expert ch _ (i 0).isLt 1024 2048, .inr (Affine.block_words_dvd (s := S32x1024x2048) (p := EltTy.packing .fp8e4m3) (by decide) (by decide))⟩,
   fun i => ⟨by rw [expert_at5]; exact ok_expert ch _ (i 0).isLt 1 2048, .inl rfl⟩,
   fun i => ⟨by rw [rows_at]; exact ok_rows ch i 16, .inl rfl⟩⟩

/-- The admissible contents, the pipeline at them, as @main's one. -/
def adm (ch : Tab) : (pcfg0 (F := Bits)).Adm := ⟨pfN ch, ok_pfN ch⟩
abbrev cfgA (ch : Tab) : Pipeline.Cfg sig Λ₀ := cfg0 (F := Bits) (adm ch)
abbrev pcs (ch : Tab) : Fin 1 → Pipeline.Cfg sig Λ₀ := Pipeline.pin (pcfgs (F := Bits)) fun _ => adm ch

/-- Point `t`'s coordinates. -/
abbrev crd (ch : Tab) (t : Fin (cfgA ch).N) : (cfgA ch).grid.Coords := (cfgA ch).grid.coords t

theorem N_eq (ch : Tab) : (cfgA ch).N = 160 := N_0

/-- The one coordinate of a point is its number. -/
theorem crd_val (ch : Tab) (t : Fin (cfgA ch).N) : ((crd ch t) (0 : Fin 1)).val = t.val := by
  have h : t.val < 160 := N_eq ch ▸ t.isLt
  refine (Pipeline.Grid.coords_val (G := grid0) t 0 (S := 1) (B := 160) (by decide) rfl).trans ?_
  omega

/-- The count, as the body reads it. -/
theorem read_count (ch : Tab) :
    View.readAt (Elt Bits) (tbM0_0).view (Rect.unit (s := S2x256) ![1, 0] S1x1.size inb_S2x256_S1x1_1_0).toLoadRect ch.1
      (Shape.Idx.first (numel1_S1x1.symm ▸ Nat.one_pos)) = ch.1 (ix2 1 0) := by
  show ch.1 _ = ch.1 _
  refine congrArg ch.1 (funext fun a => ?_)
  match a with
  | ⟨0, _⟩ => exact Fin.ext rfl
  | ⟨1, _⟩ => exact Fin.ext rfl

/-- Whether the body computes a tile at point `t`. -/
abbrev P0_0 (ch : Tab) (t : Fin (cfgA ch).N) : Prop :=
  k0_cond1 (crd ch t) (View.readAt (Elt Bits) (tbM0_0).view (Rect.unit (s := S2x256) ![1, 0] S1x1.size inb_S2x256_S1x1_1_0).toLoadRect ch.1 (Shape.Idx.first (numel1_S1x1.symm ▸ Nat.one_pos))) = 1#1

/-- It does exactly at the tiles in use. -/
theorem P0_iff (ch : Tab) (t : Fin (cfgA ch).N) : P0_0 ch t ↔ t.val < ch.n := by
  have h : t.val < 160 := N_eq ch ▸ t.isLt
  unfold P0_0 k0_cond1
  dsimp only
  rw [read_count, show ((crd ch t) 0).val = t.val from crd_val ch t]
  exact cond_iff h ch.2.small

/-- The output is idle exactly past the tiles in use. -/
theorem idle_iff (ch : Tab) (t : Fin (cfgA ch).N) :
    (cfgA ch).idle (6 : Fin 7) ((cfgA ch).grid.coords t) = !decide (t.val < ch.n) := by
  have h : t.val < 160 := N_eq ch ▸ t.isLt
  have e : (pfN ch).atD 0 ![1, 0] = ch.1 (ix2 1 0) := by
    unfold Pipeline.Prefetch.Contents.atD
    rw [dif_pos (by decide)]
    show ch.1 _ = ch.1 _
    refine congrArg ch.1 (funext fun a => ?_)
    match a with
    | ⟨0, _⟩ => exact Fin.ext rfl
    | ⟨1, _⟩ => exact Fin.ext rfl
  show (!(k0_cond1 (crd ch t) ((pfN ch).atD 0 ![1, 0]) == 1#1)) = _
  rw [e]
  congr 1
  rw [Bool.eq_iff_iff, beq_iff_eq, decide_eq_true_iff]
  unfold k0_cond1
  dsimp only
  rw [show ((crd ch t) 0).val = t.val from crd_val ch t]
  exact cond_iff h ch.2.small

/-- The output's block index at point `t`. -/
theorem index6 (ch : Tab) (t : Fin (cfgA ch).N) :
    ((cfgA ch).win (6 : Fin 7)).index t = ![0, min t.val (ch.n - 1), 0] := by
  refine (rows_at ch (crd ch t)).trans ?_
  rw [show ((crd ch t) 0).val = t.val from crd_val ch t]

/-- The output is written back at every tile in use but the last, and at the end of the grid. -/
theorem flush6 (ch : Tab) (t : Fin (cfgA ch).N) :
    ((cfgA ch).win (6 : Fin 7)).flush t = decide (t.val + 1 < ch.n ∨ t.val + 1 = 160) := by
  have hN : (cfgA ch).grid.N = 160 := N_eq ch
  have ht : t.val < 160 := N_eq ch ▸ t.isLt
  unfold Pipeline.Window.flush
  rw [show ((cfgA ch).win (6 : Fin 7)).isOut = true from rfl, Bool.true_and, Bool.eq_iff_iff, Bool.or_eq_true,
    decide_eq_true_iff, decide_eq_true_iff, decide_eq_true_iff]
  have hl := ch.n_le
  have hp := ch.n_pos
  constructor
  · rintro (h | ⟨h, hne⟩)
    · exact .inr (h.trans hN)
    · left
      rw [index6, index6] at hne
      by_contra hc
      apply hne
      have e : min (t.val + 1) (ch.n - 1) = min t.val (ch.n - 1) := by omega
      simp only [e]
  · rintro (h | h)
    · right
      refine ⟨Nat.lt_of_lt_of_eq (by omega) hN.symm, ?_⟩
      rw [index6, index6]
      intro e
      have e1 := congrFun e 1
      change min (t.val + 1) (ch.n - 1) = min t.val (ch.n - 1) at e1
      omega
    · exact .inl (h.trans hN.symm)

/-- The output's buffer holds nothing stored before a position at most the count's, or past the end of the grid. -/
theorem fresh6 (ch : Tab) (n : ℕ) (hn : n < 160) : (cfgA ch).fresh (6 : Fin 7) n = decide (n < ch.n) := by
  have hl := ch.n_le
  have hp := ch.n_pos
  induction n with
  | zero => rw [Pipeline.Cfg.fresh_zero]; exact (decide_eq_true (by omega)).symm
  | succ k ih =>
    have hk : k < (cfgA ch).N := by rw [N_eq]; omega
    rw [Pipeline.Cfg.fresh_succ _ _ k hk, ih (by omega), flush6, idle_iff]
    rw [Bool.eq_iff_iff]
    simp only [Bool.or_eq_true, decide_eq_true_iff, Bool.and_eq_true, Bool.not_eq_true', decide_eq_false_iff_not]
    omega

end Cert.Kernel.Run

end
-- ==== Proof.K.Frame.lean ====
/-
  The frame at any good table: the body's run on each of its two paths (a tile in use, computed; a tile past the count,
  idle), the contents of the output's buffer and of the scratch point by point, the pipeline's proof data, the body
  obligation, the launch, and the argument arrays unchanged at every final state.
-/
module

public import proofs.«01_k».proof.Proof.K.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Kernel.Run

open Cert.Kernel Cert.Kernel.Gen
open Cert.Table
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's ghost state at this instance. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Tab)
variable (m : (ℓ : Loc nD τ sig) → Buf (Elt Bits) ℓ) (ρ : Dev nD → PrngReg)

/-- The launch memory holds the table `ch`, on every device. -/
def Pinned (m : (ℓ : Loc nD τ sig) → Buf (Elt Bits) ℓ) : Prop :=
  (∀ c : Dev nD, m ((c : Thread nD τ).loc main_arg0) = ch.1)

/-- Each window's current staging memref at point `t`, spelled as the pipeline passes it, and its wholeness. -/
abbrev ms0_0 (t : Fin (cfgA ch).N) : Memref sig .tc .vmem S4x256x128 .i32 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S2x328x128 .f32 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1x2048x2048 .fp8e4m3 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S1x1x2048 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S1x1024x2048 .fp8e4m3 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .vmem S1x1x2048 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S16x256x128 .f32 := spec0_6.stage ((cfgA ch).slots t (6 : Fin 7))
abbrev hs0_6 (t : Fin (cfgA ch).N) : (ms0_6 ch t).IsWhole := hstage0_6 (((cfgA ch).slots t (6 : Fin 7)).cast nbuf0_6)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then false else sfresh0_0 n) else true

/-- The first tile is in use, so the scratch is determined before every later position. -/
theorem sfresh0_0_pos : ∀ n, n < (cfgA ch).N → sfresh0_0 ch (n + 1) = false
  | 0, h => by
    have q : P0_0 ch ⟨0, h⟩ := (P0_iff ch _).2 ch.n_pos
    rw [sfresh0_0, dif_pos h, if_pos q]
  | n + 1, h => by
    rw [sfresh0_0, dif_pos h, sfresh0_0_pos n (Nat.lt_of_succ_lt h)]
    exact ite_self _

/-- The body's reading of the count, at a tile in use and past them. -/
theorem hypsR0_A : ∀ (ch : Tab) (t : Fin (cfgA ch).N), P0_0 ch t → (P0_0 ch t) ∧ (True) := fun ch t h => ⟨h, trivial⟩
theorem hypsR0_B : ∀ (ch : Tab) (t : Fin (cfgA ch).N), ¬P0_0 ch t → (¬P0_0 ch t) ∧ (True) := fun ch t h => ⟨h, trivial⟩

/-- At a tile in use: the output is stored, its buffer holding nothing kept, and the scratch is determined after. -/
theorem sched0_A : ∀ (ch : Tab) (t : Fin (cfgA ch).N), P0_0 ch t →
    (cfgA ch).idle (6 : Fin 7) ((cfgA ch).grid.coords t) = false ∧ (cfgA ch).fresh (6 : Fin 7) t.val = true ∧ sfresh0_0 ch (t.val + 1) = false := by
  intro ch t h
  have h' := (P0_iff ch t).1 h
  have ht : t.val < 160 := N_eq ch ▸ t.isLt
  refine ⟨by rw [idle_iff]; simp [h'], by rw [fresh6 ch _ ht]; simp [h'], sfresh0_0_pos ch _ t.isLt⟩

/-- Past the tiles in use: the output is idle, its buffer kept, the scratch determined before and after. -/
theorem sched0_B : ∀ (ch : Tab) (t : Fin (cfgA ch).N), ¬P0_0 ch t →
    (cfgA ch).idle (6 : Fin 7) ((cfgA ch).grid.coords t) = true ∧ (cfgA ch).fresh (6 : Fin 7) t.val = false ∧ sfresh0_0 ch t.val = false ∧ sfresh0_0 ch (t.val + 1) = false := by
  intro ch t h
  have h' : ¬ t.val < ch.n := fun hh => h ((P0_iff ch t).2 hh)
  have ht : t.val < 160 := N_eq ch ▸ t.isLt
  have hp := ch.n_pos
  have hlt := t.isLt
  refine ⟨by rw [idle_iff]; simp [h'], by rw [fresh6 ch _ ht]; simp [h'], ?_, sfresh0_0_pos ch _ t.isLt⟩
  have e : t.val = (t.val - 1) + 1 := by omega
  rw [e]
  exact sfresh0_0_pos ch _ (by omega)

/-! ## What the outputs and scratches hold after each point -/

/-- ONE STEP of the trajectory: what the outputs' current buffers and the scratches hold after the body at point `t`
    (output 6, scratch 0), from what they held before (`prev`): the path the decisions select at `t`, its
    run's contents; an output the path leaves idle keeps what it held (junk — `default`, named by nothing — where fresh). -/
def step0 (c : Dev nD) (t : Fin (cfgA ch).N) (prev : (S16x256x128.Idx → Elt Bits .f32) × Buf (Elt Bits) ((c : Thread nD τ).loc cc0_scratch0)) : (S16x256x128.Idx → Elt Bits .f32) × Buf (Elt Bits) ((c : Thread nD τ).loc cc0_scratch0) :=
  if q0 : P0_0 ch t then
    (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1).2.1)
  else
    ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 (hypsR0_B ch t q0).1).1)

/-- THE TRAJECTORY: after position `n`. -/
def traj0 (c : Dev nD) : (n : ℕ) → n < (cfgA ch).N → (S16x256x128.Idx → Elt Bits .f32) × Buf (Elt Bits) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S16x256x128.Idx → Elt Bits .f32) × Buf (Elt Bits) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S16x256x128.Idx → Elt Bits .f32) × Buf (Elt Bits) ((c : Thread nD τ).loc cc0_scratch0)) (q0 : P0_0 ch t) :
    step0 ch m ρ c t prev = (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1).2.1) := by
  unfold step0; simp only [dif_pos q0]

/-- `step0` at a point of path B. -/
theorem step0_B (c : Dev nD) (t : Fin (cfgA ch).N) (prev : (S16x256x128.Idx → Elt Bits .f32) × Buf (Elt Bits) ((c : Thread nD τ).loc cc0_scratch0)) (q0 : ¬P0_0 ch t) :
    step0 ch m ρ c t prev = ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 (hypsR0_B ch t q0).1).1) := by
  unfold step0; simp only [dif_neg q0]

/-! ## The pipeline's proof data -/

/-- What the tracked buffers held before position `t` of `Fin (N+1)` (the invariant's index). -/
def prev0T (c : Dev nD) (t : Fin ((cfgA ch).N + 1)) : (S16x256x128.Idx → Elt Bits .f32) × Buf (Elt Bits) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} ch.1))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 7) t
    | ⟨1, _⟩ => iblk ch m ρ c (1 : Fin 7) t
    | ⟨2, _⟩ => iblk ch m ρ c (2 : Fin 7) t
    | ⟨3, _⟩ => iblk ch m ρ c (3 : Fin 7) t
    | ⟨4, _⟩ => iblk ch m ρ c (4 : Fin 7) t
    | ⟨5, _⟩ => iblk ch m ρ c (5 : Fin 7) t
    | ⟨6, _⟩ => (traj0 ch m ρ c t.val t.isLt).1
  Φ t := Phi ch m ρ c t
  q _ := fullShare
  owed _ := 0

theorem after0_0 (c : Dev nD) (t : Fin (cfgA ch).N) : (dats ch m ρ 0 c).after (0 : Fin 7) t = iblk ch m ρ c (0 : Fin 7) t := rfl
theorem after0_1 (c : Dev nD) (t : Fin (cfgA ch).N) : (dats ch m ρ 0 c).after (1 : Fin 7) t = iblk ch m ρ c (1 : Fin 7) t := rfl
theorem after0_2 (c : Dev nD) (t : Fin (cfgA ch).N) : (dats ch m ρ 0 c).after (2 : Fin 7) t = iblk ch m ρ c (2 : Fin 7) t := rfl
theorem after0_3 (c : Dev nD) (t : Fin (cfgA ch).N) : (dats ch m ρ 0 c).after (3 : Fin 7) t = iblk ch m ρ c (3 : Fin 7) t := rfl
theorem after0_4 (c : Dev nD) (t : Fin (cfgA ch).N) : (dats ch m ρ 0 c).after (4 : Fin 7) t = iblk ch m ρ c (4 : Fin 7) t := rfl
theorem after0_5 (c : Dev nD) (t : Fin (cfgA ch).N) : (dats ch m ρ 0 c).after (5 : Fin 7) t = iblk ch m ρ c (5 : Fin 7) t := rfl
theorem after0_6 (c : Dev nD) (t : Fin (cfgA ch).N) : (dats ch m ρ 0 c).after (6 : Fin 7) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 7) t d = iblk ch m ρ c (0 : Fin 7) t :=
  ((dats ch m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 7) t d = iblk ch m ρ c (1 : Fin 7) t :=
  ((dats ch m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 7) t d = iblk ch m ρ c (2 : Fin 7) t :=
  ((dats ch m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 7) t d = iblk ch m ρ c (3 : Fin 7) t :=
  ((dats ch m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 7) t d = iblk ch m ρ c (4 : Fin 7) t :=
  ((dats ch m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 7) t d = iblk ch m ρ c (5 : Fin 7) t :=
  ((dats ch m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m ρ 0 c).after (6 : Fin 7) t = (dats ch m ρ 0 c).after (6 : Fin 7) ⟨t.val - 1, by omega⟩ := by
  intro t ht hi hf
  rw [after0_6, after0_6, traj0_eq]
  by_cases q0 : P0_0 ch t
  · obtain ⟨i6, -, -⟩ := sched0_A ch t q0
    rw [i6] at hi; exact absurd hi (by decide)
  · rw [step0_B ch m ρ c t _ q0]
    simp only [hf, Bool.false_eq_true, ↓reduceIte]
    unfold prev0; rw [dif_neg ht]

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 7) t d = if (cfgA ch).fresh (6 : Fin 7) t.val then d else (prev0 ch m ρ c t).1 := by
  rw [(dats ch m ρ 0 c).before_out_traj (6 : Fin 7) rfl (fun _ _ => rfl) (hcarry0_6 ch m ρ c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_mlp (crd ch t) (Memref.whole main_arg0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 7) t d))
        ∗ (∃ d, owns (c : Thread nD τ) (ms0_1 ch t) fullShare ((dats ch m ρ 0 c).before (1 : Fin 7) t d))
        ∗ (∃ d, owns (c : Thread nD τ) (ms0_2 ch t) fullShare ((dats ch m ρ 0 c).before (2 : Fin 7) t d))
        ∗ (∃ d, owns (c : Thread nD τ) (ms0_3 ch t) fullShare ((dats ch m ρ 0 c).before (3 : Fin 7) t d))
        ∗ (∃ d, owns (c : Thread nD τ) (ms0_4 ch t) fullShare ((dats ch m ρ 0 c).before (4 : Fin 7) t d))
        ∗ (∃ d, owns (c : Thread nD τ) (ms0_5 ch t) fullShare ((dats ch m ρ 0 c).before (5 : Fin 7) t d))
        ∗ (∃ d, owns (c : Thread nD τ) (ms0_6 ch t) fullShare ((dats ch m ρ 0 c).before (6 : Fin 7) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i6, fr6, sfn0⟩ := sched0_A ch t q0
    have F0 := hypsR0_A ch t q0
    have k0_h1 := F0.1; have F1 := F0.2
    clear F0 F1
    rewrite [i6]
    simp only [before0_0, before0_1, before0_2, before0_3, before0_4, before0_5, before0_6, after0_0, after0_1, after0_2, after0_3, after0_4, after0_5, after0_6]
    simp only [fr6, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) k0_h1).2.2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [H6]; · iexists _; iexact H6
    isplitl [HS0]; · iexact HS0
    iintro ⟨H0, H1, H2, H3, H4, H5, HT0, ⟨%e6, H6⟩, HS0⟩
    isplitl [HS0 HT0]
    · isplitl [HS0]
      · iexists _; isplitr; swap
        · iexact HS0
        · ipureintro; intro hn; first | rfl | exact absurd hn (by first | (rw [sfn0]; decide) | decide)
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    unfold owns; iexists _; isplitr; swap
    · iexact H6
    · ipureintro; exact View.read_writes_of_cover _ _ _ _ _ (cover0_A_6 c _ _ _ _ _ _ _ _ _ _ _ _ _ _ _ _ _ _ _ _ _ _ _)
  · obtain ⟨i6, fr6, sf0, sfn0⟩ := sched0_B ch t q0
    cases f6 : ((cfgA ch).win (6 : Fin 7)).flush t
    · have F0 := hypsR0_B ch t q0
      have k0_h1 := F0.1; have F1 := F0.2
      clear F0 F1
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ, fr6, Bool.false_eq_true, ↓reduceIte]
      simp only [exists_held sf0]
      iintro ⟨⟨HS0, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [H6]; · iexact H6
      isplitl [HS0]; · iexact HS0
      iintro ⟨H0, H1, H2, H3, H4, H5, HT0, H6, HS0⟩
      isplitl [HS0 HT0]
      · isplitl [HS0]
        · iexists _; isplitr; swap
          · iexact HS0
          · ipureintro; intro hn; first | rfl | exact absurd hn (by first | (rw [sfn0]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · have F0 := hypsR0_B ch t q0
      have k0_h1 := F0.1; have F1 := F0.2
      clear F0 F1
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ, fr6, Bool.false_eq_true, ↓reduceIte]
      simp only [exists_held sf0]
      iintro ⟨⟨HS0, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [H6]; · iexact H6
      isplitl [HS0]; · iexact HS0
      iintro ⟨H0, H1, H2, H3, H4, H5, HT0, H6, HS0⟩
      isplitl [HS0 HT0]
      · isplitl [HS0]
        · iexists _; isplitr; swap
          · iexact HS0
          · ipureintro; intro hn; first | rfl | exact absurd hn (by first | (rw [sfn0]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, ⟨%a0, HS0⟩⟩
  isplitl [HS0]
  · iexists a0; isplitr; swap
    · iexact HS0
    · ipureintro; intro h; exact absurd (h.symm.trans (show sfresh0_0 ch 0 = true from rfl)) Bool.false_ne_true
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters whose tables and steering words are the table's: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp c).symm, ((h c).1 (0 : Fin 7)).trans ((dats ch m ρ 0 c).arrAt_in (0 : Fin 7) rfl _), ((h c).1 (1 : Fin 7)).trans ((dats ch m ρ 0 c).arrAt_in (1 : Fin 7) rfl _), ((h c).1 (2 : Fin 7)).trans ((dats ch m ρ 0 c).arrAt_in (2 : Fin 7) rfl _), ((h c).1 (3 : Fin 7)).trans ((dats ch m ρ 0 c).arrAt_in (3 : Fin 7) rfl _), ((h c).1 (4 : Fin 7)).trans ((dats ch m ρ 0 c).arrAt_in (4 : Fin 7) rfl _), ((h c).1 (5 : Fin 7)).trans ((dats ch m ρ 0 c).arrAt_in (5 : Fin 7) rfl _)⟩) (run_main ch m ρ hp)

/-- THE FRAME: from a launch memory that holds a good table, every weakly fair
    execution terminates, nothing faults, every argument array ends unchanged and every semaphore counter of the machine reads
    zero at every final state — `Cert.quiescent_Kernel`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.Kernel.Run

end
-- ==== Proof.KI.Tables.lean ====
/-
  The kernel's pipeline at any good table: every block it names is inside its array, a tile in use is computed, a tile
  past the count is idle, and the output block of a tile in use is written back at once except the last one's, which
  stays in its buffer until the grid ends.
-/
module

public import proofs.«01_k».proof.Proof.Table
public import proofs.«01_k».proof.Proof.Gen.KernelIdeal.Skeleton
public import proofs.«01_k».proof.Proof.Gen.KernelIdeal.Launch
public import proofs.«01_k».proof.Proof.Gen.KernelIdeal.Flash.Runs
public import Idealize.ShloMosaic.Lib.Pipeline.Kit
public import Idealize.ShloMosaic.Lib.Pipeline.TableIdle
public import Idealize.ShloMosaic.Lib.Affine

@[expose] public section

set_option maxRecDepth 16384

noncomputable section

namespace Cert.KernelIdeal.Run

open Cert.KernelIdeal Cert.KernelIdeal.Gen
open Idealize.ShloMosaic Idealize.ShloMosaic.ValueIdx
open Cert.Table

/-- The prefetched table's contents, as the pipeline takes them. -/
def pfN (ch : Tab) : pre0.Contents (Elt Ideal) := fun | ⟨0, _⟩ => ch.1 | ⟨_ + 1, h⟩ => absurd h (by simp)

/-- The count, as the index maps read it. -/
theorem at_count (ch : Tab) :
    (pfN ch).at 0 (Rect.unit (s := S2x256) ![1, 0] S1x1.size inb_S2x256_S1x1_1_0) numel1_S1x1 = ch.1 (ix2 1 0) := by
  show ch.1 _ = ch.1 _
  refine congrArg ch.1 (funext fun a => ?_)
  match a with
  | ⟨0, _⟩ => exact Fin.ext rfl
  | ⟨1, _⟩ => exact Fin.ext rfl

/-- The expert of the tile at a grid point, as the index maps read it. -/
theorem at_expert (ch : Tab) (i : grid0.Coords) (h : ∀ a, (k0_off1 i) a + S1x1.size a ≤ S2x256.size a) :
    (pfN ch).at 0 (Rect.unit (s := S2x256) (k0_off1 i) S1x1.size h) numel1_S1x1
      = ch.1 (ix2 0 ⟨(i 0).val, Nat.lt_trans (i 0).isLt (by decide)⟩) := by
  show ch.1 _ = ch.1 _
  refine congrArg ch.1 (funext fun a => ?_)
  have hi : (i 0).val < 160 := (i 0).isLt
  have e : (Scalar.indexCast (BitVec.ofNat 32 (i 0).val)).toNat = (i 0).val := by
    show (BitVec.ofNat 32 (i 0).val).toNat = _
    rw [BitVec.toNat_ofNat]; omega
  match a with
  | ⟨0, _⟩ => exact Fin.ext rfl
  | ⟨1, _⟩ => exact Fin.ext (by show (Scalar.indexCast (BitVec.ofNat 32 (i 0).val)).toNat + 0 = (i 0).val; omega)

/-- The row blocks' index map: the tile's number, clamped to the last tile in use. -/
theorem rows_at (ch : Tab) (i : grid0.Coords) :
    cc0_transform_6 inb_S2x256_S1x1_1_0 numel1_S1x1 (pfN ch) i = ![0, min (i 0).val (ch.n - 1), 0] := by
  unfold cc0_transform_6
  dsimp only
  rw [at_count, clamp_toNat (i 0).isLt ch.2.pos ch.2.small]
  rfl

/-- The input rows' index map is the output's. -/
theorem rows_at0 (ch : Tab) (i : grid0.Coords) :
    cc0_transform_0 inb_S2x256_S1x1_1_0 numel1_S1x1 (pfN ch) i = ![0, min (i 0).val (ch.n - 1), 0] := rows_at ch i

/-- The weights' index map: the tile's expert. -/
theorem expert_at (ch : Tab) (i : grid0.Coords) :
    cc0_transform_2 k0_off1_inb numel1_S1x1 (pfN ch) i
      = ![ch.e ⟨(i 0).val, Nat.lt_trans (i 0).isLt (by decide)⟩, 0, 0] := by
  unfold cc0_transform_2
  dsimp only
  rw [show (pfN ch).at 0 (Rect.unit (s := S2x256) ![0, (Scalar.indexCast (BitVec.ofNat 32 (i 0).val)).toNat] S1x1.size (k0_off1_inb i)) numel1_S1x1 = _ from at_expert ch i (k0_off1_inb i)]
  rfl
theorem expert_at3 (ch : Tab) (i : grid0.Coords) :
    cc0_transform_3 k0_off1_inb numel1_S1x1 (pfN ch) i
      = ![ch.e ⟨(i 0).val, Nat.lt_trans (i 0).isLt (by decide)⟩, 0, 0] := expert_at ch i
theorem expert_at4 (ch : Tab) (i : grid0.Coords) :
    cc0_transform_4 k0_off1_inb numel1_S1x1 (pfN ch) i
      = ![ch.e ⟨(i 0).val, Nat.lt_trans (i 0).isLt (by decide)⟩, 0, 0] := expert_at ch i
theorem expert_at5 (ch : Tab) (i : grid0.Coords) :
    cc0_transform_5 k0_off1_inb numel1_S1x1 (pfN ch) i
      = ![ch.e ⟨(i 0).val, Nat.lt_trans (i 0).isLt (by decide)⟩, 0, 0] := expert_at ch i

theorem ok_rows (ch : Tab) (i : grid0.Coords) (p : ℕ) : ∀ a : Fin 3,
    ((![0, min (i 0).val (ch.n - 1), 0] : Fin 3 → ℕ) a + 1) * (![p, 256, 128] : Fin 3 → ℕ) a ≤ (![p, 40960, 128] : Fin 3 → ℕ) a := by
  have h := ch.n_le
  have hi : (i 0).val < 160 := (i 0).isLt
  intro a
  match a with
  | ⟨0, _⟩ => show (0 + 1) * p ≤ p; omega
  | ⟨1, _⟩ => show (min (i 0).val (ch.n - 1) + 1) * 256 ≤ 40960; omega
  | ⟨2, _⟩ => show (0 + 1) * 128 ≤ 128; omega

theorem ok_expert (ch : Tab) (j : Fin 256) (hj : j.val < 160) (p q : ℕ) : ∀ a : Fin 3,
    ((![ch.e j, 0, 0] : Fin 3 → ℕ) a + 1) * (![1, p, q] : Fin 3 → ℕ) a ≤ (![32, p, q] : Fin 3 → ℕ) a := by
  have h := ch.e_lt j hj
  intro a
  match a with
  | ⟨0, _⟩ => show (ch.e j + 1) * 1 ≤ 32; omega
  | ⟨1, _⟩ => show (0 + 1) * p ≤ p; omega
  | ⟨2, _⟩ => show (0 + 1) * q ≤ q; omega

/-- Every block lies inside its array. -/
theorem ok_pfN (ch : Tab) : ok0 (F := Ideal) (pfN ch) :=
  ⟨fun i => ⟨by rw [rows_at0]; exact ok_rows ch i 4, .inl rfl⟩,
   fun i => ⟨by rw [expert_at]; exact ok_expert ch _ (i 0).isLt 2048 2048, .inr (Affine.block_words_dvd (s := S32x2048x2048) (p := EltTy.packing .fp8e4m3) (by decide) (by decide))⟩,
   fun i => ⟨by rw [expert_at3]; exact ok_expert ch _ (i 0).isLt 1 2048, .inl rfl⟩,
   fun i => ⟨by rw [expert_at4]; exact ok_expert ch _ (i 0).isLt 1024 2048, .inr (Affine.block_words_dvd (s := S32x1024x2048) (p := EltTy.packing .fp8e4m3) (by decide) (by decide))⟩,
   fun i => ⟨by rw [expert_at5]; exact ok_expert ch _ (i 0).isLt 1 2048, .inl rfl⟩,
   fun i => ⟨by rw [rows_at]; exact ok_rows ch i 16, .inl rfl⟩⟩

/-- The admissible contents, the pipeline at them, as @main's one. -/
def adm (ch : Tab) : (pcfg0 (F := Ideal)).Adm := ⟨pfN ch, ok_pfN ch⟩
abbrev cfgA (ch : Tab) : Pipeline.Cfg sig Λ₀ := cfg0 (F := Ideal) (adm ch)
abbrev pcs (ch : Tab) : Fin 1 → Pipeline.Cfg sig Λ₀ := Pipeline.pin (pcfgs (F := Ideal)) fun _ => adm ch

/-- Point `t`'s coordinates. -/
abbrev crd (ch : Tab) (t : Fin (cfgA ch).N) : (cfgA ch).grid.Coords := (cfgA ch).grid.coords t

theorem N_eq (ch : Tab) : (cfgA ch).N = 160 := N_0

/-- The one coordinate of a point is its number. -/
theorem crd_val (ch : Tab) (t : Fin (cfgA ch).N) : ((crd ch t) (0 : Fin 1)).val = t.val := by
  have h : t.val < 160 := N_eq ch ▸ t.isLt
  refine (Pipeline.Grid.coords_val (G := grid0) t 0 (S := 1) (B := 160) (by decide) rfl).trans ?_
  omega

/-- The count, as the body reads it. -/
theorem read_count (ch : Tab) :
    View.readAt (Elt Ideal) (tbM0_0).view (Rect.unit (s := S2x256) ![1, 0] S1x1.size inb_S2x256_S1x1_1_0).toLoadRect ch.1
      (Shape.Idx.first (numel1_S1x1.symm ▸ Nat.one_pos)) = ch.1 (ix2 1 0) := by
  show ch.1 _ = ch.1 _
  refine congrArg ch.1 (funext fun a => ?_)
  match a with
  | ⟨0, _⟩ => exact Fin.ext rfl
  | ⟨1, _⟩ => exact Fin.ext rfl

/-- Whether the body computes a tile at point `t`. -/
abbrev P0_0 (ch : Tab) (t : Fin (cfgA ch).N) : Prop :=
  k0_cond1 (crd ch t) (View.readAt (Elt Ideal) (tbM0_0).view (Rect.unit (s := S2x256) ![1, 0] S1x1.size inb_S2x256_S1x1_1_0).toLoadRect ch.1 (Shape.Idx.first (numel1_S1x1.symm ▸ Nat.one_pos))) = 1#1

/-- It does exactly at the tiles in use. -/
theorem P0_iff (ch : Tab) (t : Fin (cfgA ch).N) : P0_0 ch t ↔ t.val < ch.n := by
  have h : t.val < 160 := N_eq ch ▸ t.isLt
  unfold P0_0 k0_cond1
  dsimp only
  rw [read_count, show ((crd ch t) 0).val = t.val from crd_val ch t]
  exact cond_iff h ch.2.small

/-- The output is idle exactly past the tiles in use. -/
theorem idle_iff (ch : Tab) (t : Fin (cfgA ch).N) :
    (cfgA ch).idle (6 : Fin 7) ((cfgA ch).grid.coords t) = !decide (t.val < ch.n) := by
  have h : t.val < 160 := N_eq ch ▸ t.isLt
  have e : (pfN ch).atD 0 ![1, 0] = ch.1 (ix2 1 0) := by
    unfold Pipeline.Prefetch.Contents.atD
    rw [dif_pos (by decide)]
    show ch.1 _ = ch.1 _
    refine congrArg ch.1 (funext fun a => ?_)
    match a with
    | ⟨0, _⟩ => exact Fin.ext rfl
    | ⟨1, _⟩ => exact Fin.ext rfl
  show (!(k0_cond1 (crd ch t) ((pfN ch).atD 0 ![1, 0]) == 1#1)) = _
  rw [e]
  congr 1
  rw [Bool.eq_iff_iff, beq_iff_eq, decide_eq_true_iff]
  unfold k0_cond1
  dsimp only
  rw [show ((crd ch t) 0).val = t.val from crd_val ch t]
  exact cond_iff h ch.2.small

/-- The output's block index at point `t`. -/
theorem index6 (ch : Tab) (t : Fin (cfgA ch).N) :
    ((cfgA ch).win (6 : Fin 7)).index t = ![0, min t.val (ch.n - 1), 0] := by
  refine (rows_at ch (crd ch t)).trans ?_
  rw [show ((crd ch t) 0).val = t.val from crd_val ch t]

/-- The output is written back at every tile in use but the last, and at the end of the grid. -/
theorem flush6 (ch : Tab) (t : Fin (cfgA ch).N) :
    ((cfgA ch).win (6 : Fin 7)).flush t = decide (t.val + 1 < ch.n ∨ t.val + 1 = 160) := by
  have hN : (cfgA ch).grid.N = 160 := N_eq ch
  have ht : t.val < 160 := N_eq ch ▸ t.isLt
  unfold Pipeline.Window.flush
  rw [show ((cfgA ch).win (6 : Fin 7)).isOut = true from rfl, Bool.true_and, Bool.eq_iff_iff, Bool.or_eq_true,
    decide_eq_true_iff, decide_eq_true_iff, decide_eq_true_iff]
  have hl := ch.n_le
  have hp := ch.n_pos
  constructor
  · rintro (h | ⟨h, hne⟩)
    · exact .inr (h.trans hN)
    · left
      rw [index6, index6] at hne
      by_contra hc
      apply hne
      have e : min (t.val + 1) (ch.n - 1) = min t.val (ch.n - 1) := by omega
      simp only [e]
  · rintro (h | h)
    · right
      refine ⟨Nat.lt_of_lt_of_eq (by omega) hN.symm, ?_⟩
      rw [index6, index6]
      intro e
      have e1 := congrFun e 1
      change min (t.val + 1) (ch.n - 1) = min t.val (ch.n - 1) at e1
      omega
    · exact .inl (h.trans hN.symm)

/-- The output's buffer holds nothing stored before a position at most the count's, or past the end of the grid. -/
theorem fresh6 (ch : Tab) (n : ℕ) (hn : n < 160) : (cfgA ch).fresh (6 : Fin 7) n = decide (n < ch.n) := by
  have hl := ch.n_le
  have hp := ch.n_pos
  induction n with
  | zero => rw [Pipeline.Cfg.fresh_zero]; exact (decide_eq_true (by omega)).symm
  | succ k ih =>
    have hk : k < (cfgA ch).N := by rw [N_eq]; omega
    rw [Pipeline.Cfg.fresh_succ _ _ k hk, ih (by omega), flush6, idle_iff]
    rw [Bool.eq_iff_iff]
    simp only [Bool.or_eq_true, decide_eq_true_iff, Bool.and_eq_true, Bool.not_eq_true', decide_eq_false_iff_not]
    omega

end Cert.KernelIdeal.Run

end
-- ==== Proof.KI.Frame.lean ====
/-
  The frame at any good table: the body's run on each of its two paths (a tile in use, computed; a tile past the count,
  idle), the contents of the output's buffer and of the scratch point by point, the pipeline's proof data, the body
  obligation, the launch, and the argument arrays unchanged at every final state.
-/
module

public import proofs.«01_k».proof.Proof.KI.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.KernelIdeal.Run

open Cert.KernelIdeal Cert.KernelIdeal.Gen
open Cert.Table
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's ghost state at this instance. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Tab)
variable (m : (ℓ : Loc nD τ sig) → Buf (Elt Ideal) ℓ) (ρ : Dev nD → PrngReg)

/-- The launch memory holds the table `ch`, on every device. -/
def Pinned (m : (ℓ : Loc nD τ sig) → Buf (Elt Ideal) ℓ) : Prop :=
  (∀ c : Dev nD, m ((c : Thread nD τ).loc main_arg0) = ch.1)

/-- Each window's current staging memref at point `t`, spelled as the pipeline passes it, and its wholeness. -/
abbrev ms0_0 (t : Fin (cfgA ch).N) : Memref sig .tc .vmem S4x256x128 .i32 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S2x328x128 .f32 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1x2048x2048 .fp8e4m3 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S1x1x2048 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S1x1024x2048 .fp8e4m3 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .vmem S1x1x2048 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S16x256x128 .f32 := spec0_6.stage ((cfgA ch).slots t (6 : Fin 7))
abbrev hs0_6 (t : Fin (cfgA ch).N) : (ms0_6 ch t).IsWhole := hstage0_6 (((cfgA ch).slots t (6 : Fin 7)).cast nbuf0_6)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then false else sfresh0_0 n) else true

/-- The first tile is in use, so the scratch is determined before every later position. -/
theorem sfresh0_0_pos : ∀ n, n < (cfgA ch).N → sfresh0_0 ch (n + 1) = false
  | 0, h => by
    have q : P0_0 ch ⟨0, h⟩ := (P0_iff ch _).2 ch.n_pos
    rw [sfresh0_0, dif_pos h, if_pos q]
  | n + 1, h => by
    rw [sfresh0_0, dif_pos h, sfresh0_0_pos n (Nat.lt_of_succ_lt h)]
    exact ite_self _

/-- The body's reading of the count, at a tile in use and past them. -/
theorem hypsR0_A : ∀ (ch : Tab) (t : Fin (cfgA ch).N), P0_0 ch t → (P0_0 ch t) ∧ (True) := fun ch t h => ⟨h, trivial⟩
theorem hypsR0_B : ∀ (ch : Tab) (t : Fin (cfgA ch).N), ¬P0_0 ch t → (¬P0_0 ch t) ∧ (True) := fun ch t h => ⟨h, trivial⟩

/-- At a tile in use: the output is stored, its buffer holding nothing kept, and the scratch is determined after. -/
theorem sched0_A : ∀ (ch : Tab) (t : Fin (cfgA ch).N), P0_0 ch t →
    (cfgA ch).idle (6 : Fin 7) ((cfgA ch).grid.coords t) = false ∧ (cfgA ch).fresh (6 : Fin 7) t.val = true ∧ sfresh0_0 ch (t.val + 1) = false := by
  intro ch t h
  have h' := (P0_iff ch t).1 h
  have ht : t.val < 160 := N_eq ch ▸ t.isLt
  refine ⟨by rw [idle_iff]; simp [h'], by rw [fresh6 ch _ ht]; simp [h'], sfresh0_0_pos ch _ t.isLt⟩

/-- Past the tiles in use: the output is idle, its buffer kept, the scratch determined before and after. -/
theorem sched0_B : ∀ (ch : Tab) (t : Fin (cfgA ch).N), ¬P0_0 ch t →
    (cfgA ch).idle (6 : Fin 7) ((cfgA ch).grid.coords t) = true ∧ (cfgA ch).fresh (6 : Fin 7) t.val = false ∧ sfresh0_0 ch t.val = false ∧ sfresh0_0 ch (t.val + 1) = false := by
  intro ch t h
  have h' : ¬ t.val < ch.n := fun hh => h ((P0_iff ch t).2 hh)
  have ht : t.val < 160 := N_eq ch ▸ t.isLt
  have hp := ch.n_pos
  have hlt := t.isLt
  refine ⟨by rw [idle_iff]; simp [h'], by rw [fresh6 ch _ ht]; simp [h'], ?_, sfresh0_0_pos ch _ t.isLt⟩
  have e : t.val = (t.val - 1) + 1 := by omega
  rw [e]
  exact sfresh0_0_pos ch _ (by omega)

/-! ## What the outputs and scratches hold after each point -/

/-- ONE STEP of the trajectory: what the outputs' current buffers and the scratches hold after the body at point `t`
    (output 6, scratch 0), from what they held before (`prev`): the path the decisions select at `t`, its
    run's contents; an output the path leaves idle keeps what it held (junk — `default`, named by nothing — where fresh). -/
def step0 (c : Dev nD) (t : Fin (cfgA ch).N) (prev : (S16x256x128.Idx → Elt Ideal .f32) × Buf (Elt Ideal) ((c : Thread nD τ).loc cc0_scratch0)) : (S16x256x128.Idx → Elt Ideal .f32) × Buf (Elt Ideal) ((c : Thread nD τ).loc cc0_scratch0) :=
  if q0 : P0_0 ch t then
    (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1).2.1)
  else
    ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 (hypsR0_B ch t q0).1).1)

/-- THE TRAJECTORY: after position `n`. -/
def traj0 (c : Dev nD) : (n : ℕ) → n < (cfgA ch).N → (S16x256x128.Idx → Elt Ideal .f32) × Buf (Elt Ideal) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S16x256x128.Idx → Elt Ideal .f32) × Buf (Elt Ideal) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S16x256x128.Idx → Elt Ideal .f32) × Buf (Elt Ideal) ((c : Thread nD τ).loc cc0_scratch0)) (q0 : P0_0 ch t) :
    step0 ch m ρ c t prev = (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0).1).2.1) := by
  unfold step0; simp only [dif_pos q0]

/-- `step0` at a point of path B. -/
theorem step0_B (c : Dev nD) (t : Fin (cfgA ch).N) (prev : (S16x256x128.Idx → Elt Ideal .f32) × Buf (Elt Ideal) ((c : Thread nD τ).loc cc0_scratch0)) (q0 : ¬P0_0 ch t) :
    step0 ch m ρ c t prev = ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 (hypsR0_B ch t q0).1).1) := by
  unfold step0; simp only [dif_neg q0]

/-! ## The pipeline's proof data -/

/-- What the tracked buffers held before position `t` of `Fin (N+1)` (the invariant's index). -/
def prev0T (c : Dev nD) (t : Fin ((cfgA ch).N + 1)) : (S16x256x128.Idx → Elt Ideal .f32) × Buf (Elt Ideal) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} ch.1))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 7) t
    | ⟨1, _⟩ => iblk ch m ρ c (1 : Fin 7) t
    | ⟨2, _⟩ => iblk ch m ρ c (2 : Fin 7) t
    | ⟨3, _⟩ => iblk ch m ρ c (3 : Fin 7) t
    | ⟨4, _⟩ => iblk ch m ρ c (4 : Fin 7) t
    | ⟨5, _⟩ => iblk ch m ρ c (5 : Fin 7) t
    | ⟨6, _⟩ => (traj0 ch m ρ c t.val t.isLt).1
  Φ t := Phi ch m ρ c t
  q _ := fullShare
  owed _ := 0

theorem after0_0 (c : Dev nD) (t : Fin (cfgA ch).N) : (dats ch m ρ 0 c).after (0 : Fin 7) t = iblk ch m ρ c (0 : Fin 7) t := rfl
theorem after0_1 (c : Dev nD) (t : Fin (cfgA ch).N) : (dats ch m ρ 0 c).after (1 : Fin 7) t = iblk ch m ρ c (1 : Fin 7) t := rfl
theorem after0_2 (c : Dev nD) (t : Fin (cfgA ch).N) : (dats ch m ρ 0 c).after (2 : Fin 7) t = iblk ch m ρ c (2 : Fin 7) t := rfl
theorem after0_3 (c : Dev nD) (t : Fin (cfgA ch).N) : (dats ch m ρ 0 c).after (3 : Fin 7) t = iblk ch m ρ c (3 : Fin 7) t := rfl
theorem after0_4 (c : Dev nD) (t : Fin (cfgA ch).N) : (dats ch m ρ 0 c).after (4 : Fin 7) t = iblk ch m ρ c (4 : Fin 7) t := rfl
theorem after0_5 (c : Dev nD) (t : Fin (cfgA ch).N) : (dats ch m ρ 0 c).after (5 : Fin 7) t = iblk ch m ρ c (5 : Fin 7) t := rfl
theorem after0_6 (c : Dev nD) (t : Fin (cfgA ch).N) : (dats ch m ρ 0 c).after (6 : Fin 7) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 7) t d = iblk ch m ρ c (0 : Fin 7) t :=
  ((dats ch m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 7) t d = iblk ch m ρ c (1 : Fin 7) t :=
  ((dats ch m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 7) t d = iblk ch m ρ c (2 : Fin 7) t :=
  ((dats ch m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 7) t d = iblk ch m ρ c (3 : Fin 7) t :=
  ((dats ch m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 7) t d = iblk ch m ρ c (4 : Fin 7) t :=
  ((dats ch m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 7) t d = iblk ch m ρ c (5 : Fin 7) t :=
  ((dats ch m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m ρ 0 c).after (6 : Fin 7) t = (dats ch m ρ 0 c).after (6 : Fin 7) ⟨t.val - 1, by omega⟩ := by
  intro t ht hi hf
  rw [after0_6, after0_6, traj0_eq]
  by_cases q0 : P0_0 ch t
  · obtain ⟨i6, -, -⟩ := sched0_A ch t q0
    rw [i6] at hi; exact absurd hi (by decide)
  · rw [step0_B ch m ρ c t _ q0]
    simp only [hf, Bool.false_eq_true, ↓reduceIte]
    unfold prev0; rw [dif_neg ht]

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 7) t d = if (cfgA ch).fresh (6 : Fin 7) t.val then d else (prev0 ch m ρ c t).1 := by
  rw [(dats ch m ρ 0 c).before_out_traj (6 : Fin 7) rfl (fun _ _ => rfl) (hcarry0_6 ch m ρ c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_mlp (crd ch t) (Memref.whole main_arg0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 7) t d))
        ∗ (∃ d, owns (c : Thread nD τ) (ms0_1 ch t) fullShare ((dats ch m ρ 0 c).before (1 : Fin 7) t d))
        ∗ (∃ d, owns (c : Thread nD τ) (ms0_2 ch t) fullShare ((dats ch m ρ 0 c).before (2 : Fin 7) t d))
        ∗ (∃ d, owns (c : Thread nD τ) (ms0_3 ch t) fullShare ((dats ch m ρ 0 c).before (3 : Fin 7) t d))
        ∗ (∃ d, owns (c : Thread nD τ) (ms0_4 ch t) fullShare ((dats ch m ρ 0 c).before (4 : Fin 7) t d))
        ∗ (∃ d, owns (c : Thread nD τ) (ms0_5 ch t) fullShare ((dats ch m ρ 0 c).before (5 : Fin 7) t d))
        ∗ (∃ d, owns (c : Thread nD τ) (ms0_6 ch t) fullShare ((dats ch m ρ 0 c).before (6 : Fin 7) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i6, fr6, sfn0⟩ := sched0_A ch t q0
    have F0 := hypsR0_A ch t q0
    have k0_h1 := F0.1; have F1 := F0.2
    clear F0 F1
    rewrite [i6]
    simp only [before0_0, before0_1, before0_2, before0_3, before0_4, before0_5, before0_6, after0_0, after0_1, after0_2, after0_3, after0_4, after0_5, after0_6]
    simp only [fr6, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, HT0⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) k0_h1).2.2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [H6]; · iexists _; iexact H6
    isplitl [HS0]; · iexact HS0
    iintro ⟨H0, H1, H2, H3, H4, H5, HT0, ⟨%e6, H6⟩, HS0⟩
    isplitl [HS0 HT0]
    · isplitl [HS0]
      · iexists _; isplitr; swap
        · iexact HS0
        · ipureintro; intro hn; first | rfl | exact absurd hn (by first | (rw [sfn0]; decide) | decide)
      iexact HT0
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    unfold owns; iexists _; isplitr; swap
    · iexact H6
    · ipureintro; exact View.read_writes_of_cover _ _ _ _ _ (cover0_A_6 c _ _ _ _ _ _ _ _ _ _ _ _ _ _ _ _ _ _ _ _ _ _ _)
  · obtain ⟨i6, fr6, sf0, sfn0⟩ := sched0_B ch t q0
    cases f6 : ((cfgA ch).win (6 : Fin 7)).flush t
    · have F0 := hypsR0_B ch t q0
      have k0_h1 := F0.1; have F1 := F0.2
      clear F0 F1
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ, fr6, Bool.false_eq_true, ↓reduceIte]
      simp only [exists_held sf0]
      iintro ⟨⟨HS0, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [H6]; · iexact H6
      isplitl [HS0]; · iexact HS0
      iintro ⟨H0, H1, H2, H3, H4, H5, HT0, H6, HS0⟩
      isplitl [HS0 HT0]
      · isplitl [HS0]
        · iexists _; isplitr; swap
          · iexact HS0
          · ipureintro; intro hn; first | rfl | exact absurd hn (by first | (rw [sfn0]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · have F0 := hypsR0_B ch t q0
      have k0_h1 := F0.1; have F1 := F0.2
      clear F0 F1
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ, fr6, Bool.false_eq_true, ↓reduceIte]
      simp only [exists_held sf0]
      iintro ⟨⟨HS0, HT0⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (ch.1) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [H6]; · iexact H6
      isplitl [HS0]; · iexact HS0
      iintro ⟨H0, H1, H2, H3, H4, H5, HT0, H6, HS0⟩
      isplitl [HS0 HT0]
      · isplitl [HS0]
        · iexists _; isplitr; swap
          · iexact HS0
          · ipureintro; intro hn; first | rfl | exact absurd hn (by first | (rw [sfn0]; decide) | decide)
        iexact HT0
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0⟩, ⟨%a0, HS0⟩⟩
  isplitl [HS0]
  · iexists a0; isplitr; swap
    · iexact HS0
    · ipureintro; intro h; exact absurd (h.symm.trans (show sfresh0_0 ch 0 = true from rfl)) Bool.false_ne_true
  iexact HT0

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 1) : m ((c : Thread nD τ).loc (pre0.ref j)) = (adm ch).1 j := by
  fin_cases j
  · exact hp c

set_option backward.isDefEq.respectTransparency.types false in
set_option maxHeartbeats 4000000 in
/-- At the compiled mesh, from any memory with zero counters whose tables and steering words are the table's: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp c).symm, ((h c).1 (0 : Fin 7)).trans ((dats ch m ρ 0 c).arrAt_in (0 : Fin 7) rfl _), ((h c).1 (1 : Fin 7)).trans ((dats ch m ρ 0 c).arrAt_in (1 : Fin 7) rfl _), ((h c).1 (2 : Fin 7)).trans ((dats ch m ρ 0 c).arrAt_in (2 : Fin 7) rfl _), ((h c).1 (3 : Fin 7)).trans ((dats ch m ρ 0 c).arrAt_in (3 : Fin 7) rfl _), ((h c).1 (4 : Fin 7)).trans ((dats ch m ρ 0 c).arrAt_in (4 : Fin 7) rfl _), ((h c).1 (5 : Fin 7)).trans ((dats ch m ρ 0 c).arrAt_in (5 : Fin 7) rfl _)⟩) (run_main ch m ρ hp)

/-- THE FRAME: from a launch memory that holds a good table, every weakly fair
    execution terminates, nothing faults, every argument array ends unchanged and every semaphore counter of the machine reads
    zero at every final state — `Cert.quiescent_KernelIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged ch m ρ hp) ((θ_run defs _ _).mono (fun _ h => h.2) (run_main_quiescent ch m ρ hp))

end Cert.KernelIdeal.Run

end
-- ==== Proof.Pure.Scale.lean ====
module

public import Idealize.ShloMosaic.PureOps.Ideal
public import Idealize.ShloMosaic.PureOps.Ideal.Laws
public import Idealize.ShloMosaic.Lib.Pointwise

@[expose] public section

noncomputable section

namespace Cert.Scale

open Idealize.ShloMosaic

/-- The float whose exponent field is `b`, its other bits zero. -/
def pow (b : BitVec 32) : EReal := Ideal.ofBits .f32 (IntOp.shli .vector b 23#32)

/-- One step of the search for the exponent field of `y`: add `s` if the power then reached is not above `y`. -/
def step (y : EReal) (s b : BitVec 32) : BitVec 32 :=
  if pow (IntOp.addi b s) ≤ y then IntOp.addi b s else b

/-- The eight steps. -/
def search (y : EReal) : BitVec 32 :=
  step y 1#32 (step y 2#32 (step y 4#32 (step y 8#32 (step y 16#32 (step y 32#32 (step y 64#32 (step y 128#32 0#32)))))))

theorem shl_ofNat (n : ℕ) : IntOp.shli .vector (BitVec.ofNat 32 n) 23#32 = BitVec.ofNat 32 n <<< 23 := by
  unfold IntOp.shli
  rw [if_pos (by decide)]
  rfl

theorem field (n : ℕ) (h : n < 256) : ((BitVec.ofNat 32 n <<< 23).extractLsb' 23 8).toNat = n := by
  rw [BitVec.extractLsb'_toNat, BitVec.toNat_shiftLeft, BitVec.toNat_ofNat, Nat.shiftLeft_eq, Nat.shiftRight_eq_div_pow]
  omega

theorem fraction (n : ℕ) : ((BitVec.ofNat 32 n <<< 23).extractLsb' 0 23).toNat = 0 := by
  rw [BitVec.extractLsb'_toNat, BitVec.toNat_shiftLeft, BitVec.toNat_ofNat, Nat.shiftLeft_eq, Nat.shiftRight_eq_div_pow]
  omega

theorem sign (n : ℕ) (h : n < 256) : ((BitVec.ofNat 32 n <<< 23).extractLsb' 31 1 == 1#1) = false := by
  have e : (BitVec.ofNat 32 n <<< 23).extractLsb' 31 1 = 0#1 := by
    apply BitVec.eq_of_toNat_eq
    rw [BitVec.extractLsb'_toNat, BitVec.toNat_shiftLeft, BitVec.toNat_ofNat, Nat.shiftLeft_eq, Nat.shiftRight_eq_div_pow]
    simp only [BitVec.toNat_ofNat]
    omega
  rw [e]; rfl

theorem pow_ieee (n : ℕ) : pow (BitVec.ofNat 32 n) = Ideal.ieee 8 23 (BitVec.ofNat 32 n <<< 23) := by
  unfold pow
  rw [shl_ofNat]
  rfl

/-- Exponent fields from 1 to 254 denote the powers of two from `2 ^ -126` to `2 ^ 127`. -/
theorem pow_ofNat (n : ℕ) (h1 : 1 ≤ n) (h2 : n ≤ 254) : pow (BitVec.ofNat 32 n) = (((2 : ℝ) ^ ((n : ℤ) - 127) : ℝ) : EReal) := by
  rw [pow_ieee]
  unfold Ideal.ieee
  simp only [show 8 + 23 = 31 from rfl, field n (by omega), fraction n, sign n (by omega)]
  rw [if_neg (by omega), if_neg (by omega)]
  congr 1
  have e : ((n : ℤ) - 127) = 23 + ((n : ℤ) - 127 - 23) := by ring
  rw [e, zpow_add₀ (by norm_num)]
  norm_num

/-- Exponent field 255 denotes infinity. -/
theorem pow_top : pow (BitVec.ofNat 32 255) = ⊤ := by
  rw [pow_ieee]
  unfold Ideal.ieee
  simp only [show 8 + 23 = 31 from rfl, field 255 (by omega), fraction 255, sign 255 (by omega)]
  norm_num

/-- A step keeps: the field is 0 or its power is not above `y`; the power a whole span further on is above `y`, or out of range. -/
theorem step_spec (y : EReal) (n s : ℕ) (hs : 0 < s) (h : n + 2 * s ≤ 256) (hl : n = 0 ∨ pow (BitVec.ofNat 32 n) ≤ y)
    (hu : n + 2 * s = 256 ∨ y < pow (BitVec.ofNat 32 (n + 2 * s))) :
    ∃ n', step y (BitVec.ofNat 32 s) (BitVec.ofNat 32 n) = BitVec.ofNat 32 n' ∧ n' + s ≤ 256
      ∧ (n' = 0 ∨ pow (BitVec.ofNat 32 n') ≤ y) ∧ (n' + s = 256 ∨ y < pow (BitVec.ofNat 32 (n' + s))) := by
  have e : IntOp.addi (BitVec.ofNat 32 n) (BitVec.ofNat 32 s) = BitVec.ofNat 32 (n + s) := (BitVec.ofNat_add n s).symm
  unfold step
  rw [e]
  by_cases hc : pow (BitVec.ofNat 32 (n + s)) ≤ y
  · exact ⟨n + s, if_pos hc, by omega, .inr hc, by rwa [show n + s + s = n + 2 * s by omega]⟩
  · exact ⟨n, if_neg hc, by omega, hl, .inr (not_le.mp hc)⟩

/-- What the search finds. -/
theorem search_spec (y : EReal) : ∃ n, search y = BitVec.ofNat 32 n ∧ n ≤ 255 ∧ (n = 0 ∨ pow (BitVec.ofNat 32 n) ≤ y)
    ∧ (n = 255 ∨ y < pow (BitVec.ofNat 32 (n + 1))) := by
  obtain ⟨a, ea, la, ba, ua⟩ := step_spec y 0 128 (by omega) (by omega) (.inl rfl) (.inl rfl)
  obtain ⟨b, eb, lb, bb, ub⟩ := step_spec y a 64 (by omega) la ba ua
  obtain ⟨c, ec, lc, bc, uc⟩ := step_spec y b 32 (by omega) lb bb ub
  obtain ⟨d, ed, ld, bd, ud⟩ := step_spec y c 16 (by omega) lc bc uc
  obtain ⟨e, ee, le, be, ue⟩ := step_spec y d 8 (by omega) ld bd ud
  obtain ⟨f, ef, lf, bf, uf⟩ := step_spec y e 4 (by omega) le be ue
  obtain ⟨g, eg, lg, bg, ug⟩ := step_spec y f 2 (by omega) lf bf uf
  obtain ⟨h, eh, lh, bh, uh⟩ := step_spec y g 1 (by omega) lg bg ug
  refine ⟨h, ?_, by omega, bh, uh.imp (fun e => by omega) id⟩
  unfold search
  rw [ea, eb, ec, ed, ee, ef, eg, eh]

/-- The kernel's exponent of the scale: the field found less 126, and 0 if that is 0 or if `y` is at least `2 ^ 120`. -/
def expo (y : EReal) : BitVec 32 :=
  let b := if Ideal.ofBits .f32 0x7B800000#32 ≤ y then 255#32 else search y
  if b = 0#32 ∨ b = 255#32 then 0#32 else IntOp.subi b 126#32

/-- The reference's scale: the least of the powers from `2 ^ -125` to `2 ^ 120` above `y`, and 1 outside the range. -/
def least (y : EReal) : EReal :=
  (Finset.univ : Finset (Fin 246)).fold min (Ideal.ofBits .f32 0x7F800000#32) fun k =>
    if y < Ideal.exp2 ((((IntOp.subi (BitVec.ofNat 32 k.val) 125#32).toInt : ℤ) : ℝ) : EReal)
    then Ideal.exp2 ((((IntOp.subi (BitVec.ofNat 32 k.val) 125#32).toInt : ℤ) : ℝ) : EReal) else Ideal.ofBits .f32 0x7F800000#32

/-- The reference's scale of a row whose greatest magnitude over 448 is `y`. -/
def scale (y : EReal) : EReal :=
  if Ideal.ofBits .f32 0x00800000#32 ≤ y ∧ y < Ideal.ofBits .f32 0x7B800000#32 then least y else 1

theorem bits_min : Ideal.ofBits .f32 0x00800000#32 = pow (BitVec.ofNat 32 1) := rfl
theorem bits_max : Ideal.ofBits .f32 0x7B800000#32 = pow (BitVec.ofNat 32 247) := rfl
theorem bits_top : Ideal.ofBits .f32 0x7F800000#32 = ⊤ := pow_top

/-- Power number `k` of the reference's is `2 ^ (k - 125)`. -/
theorem power_eq (k : Fin 246) : Ideal.exp2 ((((IntOp.subi (BitVec.ofNat 32 k.val) 125#32).toInt : ℤ) : ℝ) : EReal)
    = pow (BitVec.ofNat 32 (k.val + 2)) := by
  have hi : (IntOp.subi (BitVec.ofNat 32 k.val) 125#32).toInt = (k.val : ℤ) - 125 := by
    revert k; decide
  rw [hi, pow_ofNat _ (by omega) (by omega)]
  show ((Real.rpow 2 _ : ℝ) : EReal) = _
  congr 1
  show (2 : ℝ) ^ (((k.val : ℤ) - 125 : ℤ) : ℝ) = _
  rw [Real.rpow_intCast]
  congr 1
  push_cast
  ring

theorem pow_lt {a b : ℕ} (ha : 1 ≤ a) (hb : b ≤ 254) (h : a < b) : pow (BitVec.ofNat 32 a) < pow (BitVec.ofNat 32 b) := by
  rw [pow_ofNat a ha (by omega), pow_ofNat b (by omega) hb, EReal.coe_lt_coe_iff]
  exact zpow_lt_zpow_right₀ (by norm_num) (by omega)

theorem pow_le {a b : ℕ} (ha : 1 ≤ a) (hb : b ≤ 254) (h : a ≤ b) : pow (BitVec.ofNat 32 a) ≤ pow (BitVec.ofNat 32 b) := by
  rcases Nat.eq_or_lt_of_le h with rfl | h
  · exact le_rfl
  · exact (pow_lt ha hb h).le

/-- The least power above `y` is the one after the one found by the search. -/
theorem least_eq (y : EReal) (n : ℕ) (h1 : 1 ≤ n) (h2 : n ≤ 246) (hl : pow (BitVec.ofNat 32 n) ≤ y)
    (hu : y < pow (BitVec.ofNat 32 (n + 1))) : least y = pow (BitVec.ofNat 32 (n + 1)) := by
  unfold least
  simp only [power_eq, bits_top]
  apply le_antisymm
  · rw [Finset.fold_min_le]
    refine .inr ⟨⟨n - 1, by omega⟩, Finset.mem_univ _, ?_⟩
    simp only [show n - 1 + 2 = n + 1 by omega]
    rw [if_pos hu]
  · rw [Finset.le_fold_min]
    refine ⟨le_top, fun k _ => ?_⟩
    by_cases hk : y < pow (BitVec.ofNat 32 (k.val + 2))
    · rw [if_pos hk]
      by_contra hc
      have : k.val + 2 ≤ n := by
        by_contra hn
        exact hc (pow_le (by omega) (by omega) (by omega))
      exact absurd (lt_of_le_of_lt hl hk) (not_lt.mpr (pow_le (by omega) (by omega) this))
    · rw [if_neg hk]; exact le_top

theorem add_sub (n : ℕ) : IntOp.addi 127#32 (IntOp.subi (BitVec.ofNat 32 n) 126#32) = BitVec.ofNat 32 (n + 1) := by
  show 127#32 + (BitVec.ofNat 32 n - 126#32) = _
  rw [BitVec.ofNat_add]
  bv_omega

theorem sub_sub (n : ℕ) (h : n ≤ 246) :
    IntOp.subi 127#32 (IntOp.subi (BitVec.ofNat 32 n) 126#32) = BitVec.ofNat 32 (254 - (n + 1)) := by
  show 127#32 - (BitVec.ofNat 32 n - 126#32) = _
  have e : BitVec.ofNat 32 (254 - (n + 1)) + BitVec.ofNat 32 n = 253#32 := by
    rw [← BitVec.ofNat_add, show 254 - (n + 1) + n = 253 by omega]
  bv_omega

/-- The kernel's scale and the factor it multiplies by, and the reference's scale. -/
theorem scale_spec (y : EReal) : pow (IntOp.addi 127#32 (expo y)) = scale y
    ∧ ∀ v : EReal, v * pow (IntOp.subi 127#32 (expo y)) = Ideal.div v (scale y) := by
  have one : pow 127#32 = 1 := by
    rw [pow_ofNat 127 (by omega) (by omega)]; norm_num
  have key : ∀ m : ℕ, 1 ≤ m → m ≤ 253 → ∀ v : EReal, v * pow (BitVec.ofNat 32 (254 - m)) = Ideal.div v (pow (BitVec.ofNat 32 m)) := by
    intro m h1 h2 v
    have hp : pow (BitVec.ofNat 32 m) ≠ 0 := by
      rw [pow_ofNat m h1 (by omega)]
      exact_mod_cast (zpow_pos (by norm_num : (0 : ℝ) < 2) _).ne'
    unfold Ideal.div
    rw [if_neg hp, pow_ofNat m h1 (by omega), pow_ofNat (254 - m) (by omega) (by omega), ← EReal.coe_inv, ← zpow_neg]
    congr 3
    omega
  by_cases hm : Ideal.ofBits .f32 0x7B800000#32 ≤ y
  · have he : expo y = 0#32 := by unfold expo; simp [hm]
    have hs : scale y = 1 := by unfold scale; rw [if_neg fun h => absurd h.2 (not_lt.mpr hm)]
    rw [he, hs]
    exact ⟨one, fun v => by rw [← one]; exact key 127 (by omega) (by omega) v⟩
  · obtain ⟨n, en, hn, hl, hu⟩ := search_spec y
    have hy : y < pow (BitVec.ofNat 32 247) := bits_max ▸ not_le.mp hm
    have hn' : n ≤ 246 := by
      by_contra hc
      rcases hl with rfl | hl
      · omega
      rcases Nat.eq_or_lt_of_le hn with rfl | hn
      · rw [pow_top] at hl
        exact absurd hy (not_lt.mpr (le_trans le_top hl))
      · exact absurd (lt_of_le_of_lt hl hy) (not_lt.mpr (pow_le (by omega) (by omega) (by omega)))
    have hb : expo y = if n = 0 then 0#32 else IntOp.subi (BitVec.ofNat 32 n) 126#32 := by
      unfold expo
      simp only [if_neg hm, en]
      have e0 : BitVec.ofNat 32 n = 0#32 ↔ n = 0 := by
        rw [← BitVec.toNat_inj]; simp only [BitVec.toNat_ofNat]; omega
      have e1 : ¬ BitVec.ofNat 32 n = 255#32 := by
        rw [← BitVec.toNat_inj]; simp only [BitVec.toNat_ofNat]; omega
      simp only [e0, e1, or_false]
    by_cases h0 : n = 0
    · subst h0
      have hs : scale y = 1 := by
        unfold scale
        rw [if_neg fun h => ?_]
        rcases hu with hu | hu
        · omega
        · exact absurd hu (not_lt.mpr h.1)
      rw [hb, hs]
      exact ⟨one, fun v => by rw [← one]; exact key 127 (by omega) (by omega) v⟩
    · have hl' := hl.resolve_left h0
      have hu' := hu.resolve_left (by omega)
      have hs : scale y = pow (BitVec.ofNat 32 (n + 1)) := by
        unfold scale
        rw [if_pos ⟨by rw [bits_min]; exact le_trans (pow_le le_rfl (by omega) (by omega)) hl', not_le.mp hm⟩]
        exact least_eq y n (by omega) hn' hl' hu'
      rw [hb, if_neg h0, hs]
      exact ⟨by rw [add_sub], fun v => by rw [sub_sub n hn']; exact key (n + 1) (by omega) (by omega) v⟩

end Cert.Scale
-- ==== Proof.Pure.Row.lean ====
module

public import proofs.«01_k».proof.Proof.Pure.Scale

@[expose] public section

noncomputable section

namespace Cert.Row

open Idealize.ShloMosaic

variable (q : Fin 2048 → EReal) (xs g : EReal) (wu : Fin 2048 → Fin 2048 → EReal) (su : Fin 2048 → EReal)
  (wd : Fin 1024 → Fin 2048 → EReal) (sd : Fin 2048 → EReal)

/-- The up projection of a row: its codes `q` against the columns `wu`, times the row's scale and the column's. -/
def hid (j : Fin 2048) : EReal := (∑ x, q x * wu x j) * xs * su j

/-- The activation: SwiGLU of the two halves of the up projection. -/
def act (j : Fin 1024) : EReal :=
  hid q xs wu su ⟨j.val, by omega⟩ * Ideal.logistic (hid q xs wu su ⟨j.val, by omega⟩) * hid q xs wu su ⟨1024 + j.val, by omega⟩

/-- The greatest magnitude of the row's activation over 448. -/
def top : EReal :=
  (Finset.univ : Finset (Fin 1024)).fold max (Ideal.ofBits .f32 0xFF800000#32)
    (fun x => (FloatOps.absf (act q xs wu su x : Ideal .f32) : Ideal .f32)) * Ideal.ofBits .f32 0x3B124925#32

/-- The code of an activation: over the scale, and within the range of the codes. -/
def code (j : Fin 1024) : EReal :=
  min (Ideal.ofBits .f32 0x43E00000#32) (max (Ideal.ofBits .f32 0xC3E00000#32)
    (Ideal.div (act q xs wu su j) (Scale.scale (top q xs wu su))))

/-- The row of the result: the codes against `wd`, times the row's scale and gate, and the column's scale. -/
def out (j : Fin 2048) : EReal :=
  (∑ x, code q xs wu su x * wd x j) * (Scale.scale (top q xs wu su) * g) * sd j

/-- A choice by number among `n + 1` values, as a chain of selects. -/
def pick (v : BitVec 32) (f : Fin 32 → EReal) : ℕ → EReal
  | 0 => f 0
  | n + 1 => Scalar.select (IntOp.cmpi .eq v (BitVec.ofNat 32 (n + 1))) (f (Fin.ofNat 32 (n + 1))) (pick v f n)

/-- The chain takes the value whose number is asked for. -/
theorem pick_eq (e : Fin 32) (f : Fin 32 → EReal) : ∀ n, n < 32 → e.val ≤ n → pick (BitVec.ofNat 32 e.val) f n = f e
  | 0, _, h => by
    have : e = 0 := Fin.ext (by simpa using h)
    subst this; rfl
  | n + 1, hn, h => by
    unfold pick
    by_cases he : e.val = n + 1
    · have : Fin.ofNat 32 (n + 1) = e := Fin.ext (by simp [Fin.ofNat, he]; omega)
      rw [he, this]
      simp [Scalar.select, IntOp.cmpi]
    · have hne : BitVec.ofNat 32 e.val ≠ BitVec.ofNat 32 (n + 1) := by
        intro hc
        have := congrArg BitVec.toNat hc
        simp only [BitVec.toNat_ofNat] at this
        omega
      rw [← pick_eq e f n (by omega) (by omega)]
      have hb : (BitVec.ofNat 32 e.val == BitVec.ofNat 32 (n + 1)) = false := beq_eq_false_iff_ne.mpr hne
      show (if BitVec.ofBool (BitVec.ofNat 32 e.val == BitVec.ofNat 32 (n + 1)) = 1#1 then _ else _) = _
      rw [hb]
      exact if_neg (by decide)

end Cert.Row
-- ==== Proof.Ref.Chain.lean ====
module

public import proofs.«01_k».proof.Proof.Gen.ReferenceIdeal.Frame
public import Idealize.ShloMosaic.Lib.Pointwise
public import proofs.«01_k».proof.Proof.Pure.Row

@[expose] public section

noncomputable section

namespace Cert.ReferenceIdeal.Run

open Idealize.ShloMosaic Cert.ReferenceIdeal Cert.ReferenceIdeal.Gen Cert.ReferenceIdeal.Facts

/-! The reference's chains of selects, read at an index: each takes, by the number of the row's expert, one of the 32 values. -/

variable (x0 : Vec Ideal S40960x1 .i32) (x1 : Vec Ideal S40960x2048 .i8) (x2 x3 : Vec Ideal S40960x1 .f32)
  (x4 : Vec Ideal S32x2048x2048 .fp8e4m3) (x5 : Vec Ideal S32x1x2048 .f32) (x6 : Vec Ideal S32x1024x2048 .fp8e4m3)
  (x7 : Vec Ideal S32x1x2048 .f32) (r : Fin 40960)

/-- The up projection before the column's scale. -/
theorem up_apply (j : Fin 2048) : k0_pay94 x0 x1 x2 x3 x4 x5 x6 x7 (ix2 r j)
    = Row.pick (x0 (ix2 r 0)) (fun n => ∑ x, Ideal.ofBits .fp8e4m3 (x1 (ix2 r x)) * x4 (ix3 n x j)) 31 * x2 (ix2 r 0) := by
  unfold k0_pay94
  pointwise [k0_pay92,k0_pay93,k0_pay3,k0_pay4,k0_pay5,k0_pay6,k0_pay7,k0_pay8,k0_pay9,k0_pay10,k0_pay11,k0_pay12,k0_pay13,k0_pay14,k0_pay15,k0_pay16,k0_pay17,k0_pay18,k0_pay19]
  rfl

/-- The scales of the up projection's columns: the first 27 experts. -/
theorem su_apply (j : Fin 2048) : k0_pay95 x0 x1 x2 x3 x4 x5 x6 x7 (ix2 r j) = Row.pick (x0 (ix2 r 0)) (fun n => x5 (ix3 n 0 j)) 26 := by
  unfold k0_pay95
  pointwise [k0_pay92,k0_pay3,k0_pay20,k0_pay21,k0_pay22,k0_pay23,k0_pay24,k0_pay25,k0_pay26,k0_pay27,k0_pay28,k0_pay29,k0_pay30,k0_pay31,k0_pay32]
  rfl

/-- The scales of the down projection's columns: the first 29 experts. -/
theorem sd_apply (j : Fin 2048) : k0_pay102 x0 x1 x2 x3 x4 x5 x6 x7 (ix2 r j) = Row.pick (x0 (ix2 r 0)) (fun n => x7 (ix3 n 0 j)) 28 := by
  unfold k0_pay102
  pointwise [k0_pay92,k0_pay3,k0_pay59,k0_pay60,k0_pay61,k0_pay62,k0_pay63,k0_pay64,k0_pay65,k0_pay66,k0_pay67,k0_pay68,k0_pay69,k0_pay70,k0_pay71,k0_pay72]
  rfl

/-- The second half of the up projection. -/
theorem half_apply (j : Fin 1024) : k0_pay98 x0 x1 x2 x3 x4 x5 x6 x7 (ix2 r j) = k0_pay94 x0 x1 x2 x3 x4 x5 x6 x7 (ix2 r ⟨1024 + j.val, by omega⟩)
    * Row.pick (x0 (ix2 r 0)) (fun n => x5 (ix3 n 0 ⟨1024 + j.val, by omega⟩)) 31 := by
  have hs := su_apply x0 x1 x2 x3 x4 x5 x6 x7 r ⟨1024 + j.val, by omega⟩
  unfold k0_pay98
  generalize k0_pay94 x0 x1 x2 x3 x4 x5 x6 x7 = a at *
  generalize k0_pay95 x0 x1 x2 x3 x4 x5 x6 x7 = b at *
  pointwise [k0_pay92,k0_pay3,k0_pay36,k0_pay35,k0_pay96,k0_pay97,k0_pay33,k0_pay34]
  rw [hs]
  rfl

/-- The first half of the up projection times its logistic. -/
theorem silu_apply (j : Fin 1024) : k0_pay99 x0 x1 x2 x3 x4 x5 x6 x7 (ix2 r j)
    = (k0_pay94 x0 x1 x2 x3 x4 x5 x6 x7 (ix2 r ⟨j.val, by omega⟩) * Row.pick (x0 (ix2 r 0)) (fun n => x5 (ix3 n 0 ⟨j.val, by omega⟩)) 31)
      * Ideal.logistic (k0_pay94 x0 x1 x2 x3 x4 x5 x6 x7 (ix2 r ⟨j.val, by omega⟩) * Row.pick (x0 (ix2 r 0)) (fun n => x5 (ix3 n 0 ⟨j.val, by omega⟩)) 31) := by
  have hs := su_apply x0 x1 x2 x3 x4 x5 x6 x7 r ⟨j.val, by omega⟩
  unfold k0_pay99
  generalize k0_pay94 x0 x1 x2 x3 x4 x5 x6 x7 = a at *
  generalize k0_pay95 x0 x1 x2 x3 x4 x5 x6 x7 = b at *
  pointwise [k0_pay92,k0_pay3,k0_pay37,k0_pay35,k0_pay96,k0_pay97,k0_pay33,k0_pay34]
  rw [hs]
  rfl

/-- The down projection times the row's scale and gate. -/
theorem down_apply (c : FVec Ideal S40960x1 .f32) (h : k0_pay39 (k0_pay98 x0 x1 x2 x3 x4 x5 x6 x7) (k0_pay99 x0 x1 x2 x3 x4 x5 x6 x7) = c) (j : Fin 2048) :
    k0_pay101 x0 x1 x2 x3 x4 x5 x6 x7 (ix2 r j)
    = Row.pick (x0 (ix2 r 0)) (fun n => ∑ x, k0_pay100 x0 x1 x2 x3 x4 x5 x6 x7 (ix2 r x) * x6 (ix3 n x j)) 31 * (c (ix2 r 0) * x3 (ix2 r 0)) := by
  unfold k0_pay101
  rw [h]
  unfold k0_pay100
  generalize k0_pay98 x0 x1 x2 x3 x4 x5 x6 x7 = a at *
  generalize k0_pay99 x0 x1 x2 x3 x4 x5 x6 x7 = b at *
  pointwise [k0_pay92,k0_pay3,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58]
  rfl

/-- The result, its rows not yet parted into planes. -/
theorem result_apply (j : Fin 2048) : k0_pay105 x0 x1 x2 x3 x4 x5 x6 x7 (ix2 r j)
    = k0_pay101 x0 x1 x2 x3 x4 x5 x6 x7 (ix2 r j) * Row.pick (x0 (ix2 r 0)) (fun n => x7 (ix3 n 0 j)) 31 := by
  have hs := sd_apply x0 x1 x2 x3 x4 x5 x6 x7 r j
  unfold k0_pay105
  generalize k0_pay101 x0 x1 x2 x3 x4 x5 x6 x7 = a at *
  generalize k0_pay102 x0 x1 x2 x3 x4 x5 x6 x7 = b at *
  pointwise [k0_pay92,k0_pay3,k0_pay75,k0_pay103,k0_pay104,k0_pay73,k0_pay74]
  rw [hs]
  rfl

end Cert.ReferenceIdeal.Run
-- ==== Proof.Ref.Quant.lean ====
module

public import proofs.«01_k».proof.Proof.Ref.Chain

@[expose] public section

noncomputable section

namespace Cert.ReferenceIdeal.Run

open Idealize.ShloMosaic Cert.ReferenceIdeal Cert.ReferenceIdeal.Gen Cert.ReferenceIdeal.Facts

/-! The reference's quantiser, read at an index, and from it and the chains of selects a row of the result. -/

/-- The greatest magnitude of each row. -/
def amaxV (v : FVec Ideal S40960x1024 .f32) : FVec Ideal S40960x1 .f32 :=
  shapeCast S40960x1 (multiReduction .maximumf [1] S40960 (absf v) 0xFF800000#32 reduces_S40960x1024_S40960 (.inl rfl) rfl) shapeCasts_S40960_S40960x1

/-- The least of the powers `p` above `y`, or infinity. -/
def leastV (p : FVec Ideal S1x246 .f32) (y : FVec Ideal S40960x1 .f32) : FVec Ideal S40960x1 .f32 :=
  shapeCast S40960x1 (multiReduction .minimumf [1] S40960 (select (cmpf .ogt (broadcastTo S40960x246 p broadcasts_S1x246_S40960x246) (broadcastTo S40960x246 y broadcasts_S40960x1_S40960x246)) (broadcastTo S40960x246 (shapeCast S1x246 p shapeCasts_S1x246_S1x246) broadcasts_S1x246_S40960x246) (broadcast S40960x246 (Scalar.ofBits .f32 0x7F800000#32 : Ideal .f32))) 0x7F800000#32 reduces_S40960x246_S40960 (.inl rfl) rfl) shapeCasts_S40960_S40960x1

/-- The scale of each row from `y`, its greatest magnitude over 448. -/
def scaleV (p : FVec Ideal S1x246 .f32) (y : FVec Ideal S40960x1 .f32) : FVec Ideal S40960x1 .f32 :=
  select (andi (cmpf .oge y (broadcast S40960x1 (Scalar.ofBits .f32 0x00800000#32 : Ideal .f32))) (cmpf .olt y (broadcast S40960x1 (Scalar.ofBits .f32 0x7B800000#32 : Ideal .f32)))) (leastV p y) (broadcast S40960x1 (Scalar.ofBits .f32 0x3F800000#32 : Ideal .f32))

/-- The powers of two from `2 ^ -125` to `2 ^ 120`. -/
def powersV : FVec Ideal S1x246 .f32 := exp2 (sitofp .f32 (subi (iota .tc S1x246 32 [1] iota_S1x246_d1_w32) (broadcast S1x246 125#32)))

theorem scales_eq (a b : FVec Ideal S40960x1024 .f32) : k0_pay39 a b
    = scaleV powersV (mulf (amaxV (k0_pay38 a b)) (broadcast S40960x1 (Scalar.ofBits .f32 0x3B124925#32 : Ideal .f32))) := by
  unfold k0_pay39
  exact rfl

/-- Each value over its row's scale, within the range of the codes. -/
def codesV (a : FVec Ideal S40960x1024 .f32) (s : FVec Ideal S40960x1 .f32) : FVec Ideal S40960x1024 .fp8e4m3 :=
  truncf .fp8e4m3 (minimumf (broadcast S40960x1024 (Scalar.ofBits .f32 0x43E00000#32 : Ideal .f32))
    (maximumf (broadcast S40960x1024 (Scalar.ofBits .f32 0xC3E00000#32 : Ideal .f32))
      (divf a (broadcastTo S40960x1024 s broadcasts_S40960x1_S40960x1024)))) bitsLt_fp8e4m3_f32

theorem codes_eq (a b : FVec Ideal S40960x1024 .f32) : k0_pay40 a b = codesV (k0_pay38 a b) (k0_pay39 a b) := by
  unfold k0_pay40
  exact rfl

theorem codesV_apply (a : FVec Ideal S40960x1024 .f32) (s : FVec Ideal S40960x1 .f32) (r : Fin 40960) (j : Fin 1024) :
    codesV a s (ix2 r j) = min (Ideal.ofBits .f32 0x43E00000#32)
      (max (Ideal.ofBits .f32 0xC3E00000#32) (Ideal.div (a (ix2 r j)) (s (ix2 r 0)))) := by
  unfold codesV
  pointwise []

theorem product_apply (a b : FVec Ideal S40960x1024 .f32) (r : Fin 40960) (j : Fin 1024) :
    k0_pay38 a b (ix2 r j) = b (ix2 r j) * a (ix2 r j) := by
  pointwise [k0_pay38]

theorem amaxV_apply (v : FVec Ideal S40960x1024 .f32) (r : Fin 40960) : amaxV v (ix2 r 0)
    = (Finset.univ : Finset (Fin 1024)).fold max (Ideal.ofBits .f32 0xFF800000#32)
      fun k => (FloatOps.absf (v (ix2 r k) : Ideal .f32) : Ideal .f32) := by
  unfold amaxV
  pointwise []

theorem powersV_apply (k : Fin 246) : powersV (ix2 0 k)
    = Ideal.exp2 ((((IntOp.subi (BitVec.ofNat 32 k.val) 125#32).toInt : ℤ) : ℝ) : EReal) := by
  unfold powersV
  pointwise []
  rfl

theorem leastV_apply (p : FVec Ideal S1x246 .f32) (y : FVec Ideal S40960x1 .f32) (r : Fin 40960) : leastV p y (ix2 r 0)
    = (Finset.univ : Finset (Fin 246)).fold min (Ideal.ofBits .f32 0x7F800000#32)
      fun k => if y (ix2 r 0) < p (ix2 0 k) then p (ix2 0 k) else Ideal.ofBits .f32 0x7F800000#32 := by
  unfold leastV
  pointwise []

theorem scaleV_apply (p : FVec Ideal S1x246 .f32) (y : FVec Ideal S40960x1 .f32) (r : Fin 40960) : scaleV p y (ix2 r 0)
    = if Ideal.ofBits .f32 0x00800000#32 ≤ y (ix2 r 0) ∧ y (ix2 r 0) < Ideal.ofBits .f32 0x7B800000#32
      then leastV p y (ix2 r 0) else 1 := by
  unfold scaleV
  generalize leastV p y = l
  pointwise []
  by_cases h1 : Ideal.ofBits .f32 0x00800000#32 ≤ y (ix2 r 0) <;> by_cases h2 : y (ix2 r 0) < Ideal.ofBits .f32 0x7B800000#32 <;>
    simp [Scalar.select, IntOp.andi, h1, h2]

/-- The scale of a row. -/
theorem scales_apply (a b : FVec Ideal S40960x1024 .f32) (r : Fin 40960) : k0_pay39 a b (ix2 r 0)
    = Scale.scale ((Finset.univ : Finset (Fin 1024)).fold max (Ideal.ofBits .f32 0xFF800000#32)
      (fun k => (FloatOps.absf (b (ix2 r k) * a (ix2 r k) : Ideal .f32) : Ideal .f32)) * Ideal.ofBits .f32 0x3B124925#32) := by
  have hy : ∀ v : FVec Ideal S40960x1 .f32, mulf v (broadcast S40960x1 (Scalar.ofBits .f32 0x3B124925#32 : Ideal .f32)) (ix2 r 0)
      = v (ix2 r 0) * Ideal.ofBits .f32 0x3B124925#32 := fun _ => rfl
  rw [scales_eq, scaleV_apply, leastV_apply, hy, amaxV_apply]
  simp only [product_apply, powersV_apply]
  rfl

variable (x0 : Vec Ideal S40960x1 .i32) (x1 : Vec Ideal S40960x2048 .i8) (x2 x3 : Vec Ideal S40960x1 .f32)
  (x4 : Vec Ideal S32x2048x2048 .fp8e4m3) (x5 : Vec Ideal S32x1x2048 .f32) (x6 : Vec Ideal S32x1024x2048 .fp8e4m3)
  (x7 : Vec Ideal S32x1x2048 .f32) (r : Fin 40960)

/-- A row of the result, from the row's codes, scale and gate and the weights of its expert. -/
theorem row_apply (e : Fin 32) (he : x0 (ix2 r 0) = BitVec.ofNat 32 e.val) (j : Fin 2048) : k0_pay105 x0 x1 x2 x3 x4 x5 x6 x7 (ix2 r j)
    = Row.out (fun x => Ideal.ofBits .fp8e4m3 (x1 (ix2 r x))) (x2 (ix2 r 0)) (x3 (ix2 r 0)) (fun x j => x4 (ix3 e x j))
      (fun j => x5 (ix3 e 0 j)) (fun x j => x6 (ix3 e x j)) (fun j => x7 (ix3 e 0 j)) j := by
  have pk : ∀ f : Fin 32 → EReal, Row.pick (x0 (ix2 r 0)) f 31 = f e := fun f => by
    rw [he]; exact Row.pick_eq e f 31 (by omega) (by omega)
  have hact : ∀ k : Fin 1024, k0_pay99 x0 x1 x2 x3 x4 x5 x6 x7 (ix2 r k) * k0_pay98 x0 x1 x2 x3 x4 x5 x6 x7 (ix2 r k)
      = Row.act (fun x => Ideal.ofBits .fp8e4m3 (x1 (ix2 r x))) (x2 (ix2 r 0)) (fun x j => x4 (ix3 e x j))
        (fun j => x5 (ix3 e 0 j)) k := by
    intro k
    rw [silu_apply, half_apply, up_apply, up_apply, pk, pk, pk, pk]
    rfl
  rw [result_apply, down_apply x0 x1 x2 x3 x4 x5 x6 x7 r _ rfl, pk, pk, scales_apply]
  unfold k0_pay100
  simp only [codes_eq, codesV_apply, product_apply, scales_apply, hact]
  rfl

end Cert.ReferenceIdeal.Run
-- ==== Proof.Ref.Host.lean ====
module

public import proofs.«01_k».proof.Proof.Ref.Quant
public import Idealize.ShloMosaic.Lib.BitcastConvert

@[expose] public section

noncomputable section

namespace Cert.ReferenceIdeal.Run

open Idealize.ShloMosaic Cert.ReferenceIdeal Cert.ReferenceIdeal.Gen Cert.ReferenceIdeal.Facts
open Idealize.ShloMosaic.TcCoe

/-! The tables of the rows that the reference builds before its call: each row's expert, codes, scale and gate. -/

section Reads

variable (a0 : IVec S2x256 32) (a1 : IVec S4x40960x128 32) (a2 : FVec Ideal S2x328x128 .f32)

/-- Each row's expert. -/
def expertV : IVec S40960x1 32 :=
  shapeCast S40960x1 (shapeCast S40960 (broadcastInDim S160x256 ![0] bcast_S160_S160x256_0 (shapeCast S160 (extractStridedSlice S1x160 ![0, 0] a0 slices_S2x256_S1x160_0_0) shapeCasts_S1x160_S160)) shapeCasts_S160x256_S40960) shapeCasts_S40960_S40960x1

/-- Each row's codes, as bytes. -/
def bytesV : IVec S40960x2048 8 :=
  shapeCast S40960x2048 (transpose S40960x4x4x128 [1, 0, 3, 2] (Host.bitcastConvertNarrow S4x40960x128x4 8 a1 splits_S4x40960x128_w32_S4x40960x128x4_w8) transposes_S4x40960x128x4_S40960x4x4x128_1_0_3_2) shapeCasts_S40960x4x4x128_S40960x2048

/-- Each row's scale. -/
def scalesV : FVec Ideal S40960x1 .f32 :=
  shapeCast S40960x1 (extractStridedSlice S40960 ![0] (shapeCast S41984 (shapeCast S328x128 (extractStridedSlice S1x328x128 ![0, 0, 0] a2 slices_S2x328x128_S1x328x128_0_0_0) shapeCasts_S1x328x128_S328x128) shapeCasts_S328x128_S41984) slices_S41984_S40960_0) shapeCasts_S40960_S40960x1

/-- Each row's gate. -/
def gatesV : FVec Ideal S40960x1 .f32 :=
  shapeCast S40960x1 (extractStridedSlice S40960 ![0] (shapeCast S41984 (shapeCast S328x128 (extractStridedSlice S1x328x128 ![1, 0, 0] a2 slices_S2x328x128_S1x328x128_1_0_0) shapeCasts_S1x328x128_S328x128) shapeCasts_S328x128_S41984) slices_S41984_S40960_0) shapeCasts_S40960_S40960x1

theorem expertV_apply (r : Fin 40960) : expertV a0 (ix2 r 0) = a0 (ix2 0 ⟨r.val / 256, by omega⟩) := by
  unfold expertV
  pointwise []

theorem scalesV_apply (r : Fin 40960) : scalesV a2 (ix2 r 0) = a2 (ix3 0 ⟨r.val / 128, by omega⟩ ⟨r.val % 128, by omega⟩) := by
  unfold scalesV
  pointwise []

theorem gatesV_apply (r : Fin 40960) : gatesV a2 (ix2 r 0) = a2 (ix3 1 ⟨r.val / 128, by omega⟩ ⟨r.val % 128, by omega⟩) := by
  unfold gatesV
  pointwise []

theorem byte_apply (p : Fin 4) (r : Fin 40960) (l : Fin 128) (b : Fin 4) :
    Host.bitcastConvertNarrow S4x40960x128x4 8 a1 splits_S4x40960x128_w32_S4x40960x128x4_w8 (ix4 p r l b)
      = (a1 (ix3 p r l)).extractLsb' (b.val * 8) 8 := by
  show (a1 _).extractLsb' _ 8 = _
  congr 2
  funext k
  match k with
  | ⟨0, _⟩ => rfl
  | ⟨1, _⟩ => rfl
  | ⟨2, _⟩ => rfl

/-- Code `k` of a row is byte `k / 128 % 4` of word `k % 128` of the row in plane `k / 512`. -/
theorem bytesV_apply (r : Fin 40960) (k : Fin 2048) : bytesV a1 (ix2 r k)
    = (a1 (ix3 ⟨k.val / 512, by omega⟩ r ⟨k.val % 128, by omega⟩)).extractLsb' (k.val / 128 % 4 * 8) 8 := by
  have h : bytesV a1 (ix2 r k) = Host.bitcastConvertNarrow S4x40960x128x4 8 a1 splits_S4x40960x128_w32_S4x40960x128x4_w8
      (ix4 ⟨k.val / 512, by omega⟩ r ⟨k.val % 128, by omega⟩ ⟨k.val / 128 % 4, by omega⟩) := by
    unfold bytesV
    pointwise []
  rw [h, byte_apply]

end Reads

variable (m : (ℓ : Loc nD τ sig) → Buf (Elt Ideal) ℓ)

theorem V_expert (c : Dev nD) : V m c main_v4 = expertV (m ((c : Thread nD τ).loc main_arg0)) := rfl
theorem V_bytes (c : Dev nD) : V m c main_v7 = bytesV (m ((c : Thread nD τ).loc main_arg1)) := rfl
theorem V_scales (c : Dev nD) : V m c main_v12 = scalesV (m ((c : Thread nD τ).loc main_arg2)) := rfl
theorem V_gates (c : Dev nD) : V m c main_v17 = gatesV (m ((c : Thread nD τ).loc main_arg2)) := rfl

end Cert.ReferenceIdeal.Run
-- ==== Proof.Ref.Planes.lean ====
module

public import proofs.«01_k».proof.Proof.Ref.Host
public import Idealize.ShloMosaic.Lib.Pipeline.Value

@[expose] public section

noncomputable section

namespace Cert.ReferenceIdeal.Run

open Idealize.ShloMosaic Cert.ReferenceIdeal Cert.ReferenceIdeal.Gen Cert.ReferenceIdeal.Facts

/-! The sixteen planes the reference stores are the columns of its result, 128 to a plane. -/

/-- A matrix of rows, as sixteen planes of 128 columns. -/
def planes (W : FVec Ideal S40960x2048 .f32) (i : S16x40960x128.Idx) : Ideal .f32 :=
  W (ix2 (i 1) ⟨128 * (i 0).val + (i 2).val, by
    have h0 : (i 0).val < 16 := (i 0).isLt
    have h2 : (i 2).val < 128 := (i 2).isLt
    omega⟩)

theorem piece (W : FVec Ideal S40960x2048 .f32) (o : ℕ) (ho : o < 16) (w : FVec Ideal S1x40960x128 .f32)
    (inb : ∀ a, (![o, 0, 0] : Fin 3 → ℕ) a + S1x40960x128.size a ≤ S16x40960x128.size a)
    (hw : ∀ (r : Fin 40960) (l : Fin 128), w (ix3 0 r l) = W (ix2 r ⟨128 * o + l.val, by omega⟩)) (x : S1x40960x128.Idx) :
    w x = planes W ((Rect.unit (s := S16x40960x128) ![o, 0, 0] S1x40960x128.size inb).emb x) := by
  obtain ⟨r, l, rfl⟩ : ∃ (r : Fin 40960) (l : Fin 128), x = (ix3 0 r l : S1x40960x128.Idx) := ⟨x 1, x 2, by
    funext a
    match a with
    | ⟨0, _⟩ => exact Subsingleton.elim (α := Fin 1) _ _
    | ⟨1, _⟩ => rfl
    | ⟨2, _⟩ => rfl⟩
  rw [hw]
  refine congrArg W ?_
  congr 1
  · apply Fin.ext; rw [Rect.emb_apply]; show r.val = 0 + 1 * r.val; omega
  · apply Fin.ext
    show 128 * o + l.val = 128 * _ + _
    rw [Rect.emb_apply, Rect.emb_apply]
    show 128 * o + l.val = 128 * (o + 1 * 0) + (0 + 1 * l.val)
    omega

variable (v1 : IVec S40960x1 32) (v837 v1093 : FVec Ideal S40960x2048 .f32) (v1095 : IVec S40960x1 1) (v1097 : FVec Ideal S1x2048 .f32)
  (v1105 v1114 : Vec Ideal S1x1x2048 .f32) (W : FVec Ideal S40960x2048 .f32) (r : Fin 40960) (l : Fin 128)

theorem plane0 : (k0_pay76 v1 v837 v1093 v1095 v1097 v1105 v1114) (ix3 0 r l) = (k0_pay75 v1 v837 v1093 v1095 v1097 v1105 v1114) (ix2 r ⟨128 * 0 + l.val, by omega⟩) := by
  pointwise [k0_pay76]

theorem plane1 : (k0_pay77 v1 v837 v1093 v1095 v1097 v1105 v1114) (ix3 0 r l) = (k0_pay75 v1 v837 v1093 v1095 v1097 v1105 v1114) (ix2 r ⟨128 * 1 + l.val, by omega⟩) := by
  pointwise [k0_pay77]

theorem plane2 : (k0_pay78 v1 v837 v1093 v1095 v1097 v1105 v1114) (ix3 0 r l) = (k0_pay75 v1 v837 v1093 v1095 v1097 v1105 v1114) (ix2 r ⟨128 * 2 + l.val, by omega⟩) := by
  pointwise [k0_pay78]

theorem plane3 : (k0_pay80 (k0_pay79 v1 v837 v1093 v1095 v1097 v1105 v1114)) (ix3 0 r l) = (k0_pay75 v1 v837 v1093 v1095 v1097 v1105 v1114) (ix2 r ⟨128 * 3 + l.val, by omega⟩) := by
  pointwise [k0_pay80, k0_pay79]

theorem plane4 : (k0_pay81 W) (ix3 0 r l) = (W) (ix2 r ⟨128 * 4 + l.val, by omega⟩) := by
  pointwise [k0_pay81]

theorem plane5 : (k0_pay82 W) (ix3 0 r l) = (W) (ix2 r ⟨128 * 5 + l.val, by omega⟩) := by
  pointwise [k0_pay82]

theorem plane6 : (k0_pay83 W) (ix3 0 r l) = (W) (ix2 r ⟨128 * 6 + l.val, by omega⟩) := by
  pointwise [k0_pay83]

theorem plane7 : (k0_pay84 W) (ix3 0 r l) = (W) (ix2 r ⟨128 * 7 + l.val, by omega⟩) := by
  pointwise [k0_pay84]

theorem plane8 : (k0_pay85 W) (ix3 0 r l) = (W) (ix2 r ⟨128 * 8 + l.val, by omega⟩) := by
  pointwise [k0_pay85]

theorem plane9 : (k0_pay86 W) (ix3 0 r l) = (W) (ix2 r ⟨128 * 9 + l.val, by omega⟩) := by
  pointwise [k0_pay86]

theorem plane10 : (k0_pay87 W) (ix3 0 r l) = (W) (ix2 r ⟨128 * 10 + l.val, by omega⟩) := by
  pointwise [k0_pay87]

theorem plane11 : (k0_pay88 W) (ix3 0 r l) = (W) (ix2 r ⟨128 * 11 + l.val, by omega⟩) := by
  pointwise [k0_pay88]

theorem plane12 : (k0_pay89 W) (ix3 0 r l) = (W) (ix2 r ⟨128 * 12 + l.val, by omega⟩) := by
  pointwise [k0_pay89]

theorem plane13 : (k0_pay90 W) (ix3 0 r l) = (W) (ix2 r ⟨128 * 13 + l.val, by omega⟩) := by
  pointwise [k0_pay90]

theorem plane14 : (k0_pay1 (k0_pay91 W)) (ix3 0 r l) = (W) (ix2 r ⟨128 * 14 + l.val, by omega⟩) := by
  pointwise [k0_pay1, k0_pay91]

theorem plane15 : (k0_pay2 W) (ix3 0 r l) = (W) (ix2 r ⟨128 * 15 + l.val, by omega⟩) := by
  pointwise [k0_pay2]

variable (x0 : Vec Ideal S40960x1 .i32) (x1 : Vec Ideal S40960x2048 .i8) (x2 x3 : Vec Ideal S40960x1 .f32)
  (x4 : Vec Ideal S32x2048x2048 .fp8e4m3) (x5 : Vec Ideal S32x1x2048 .f32) (x6 : Vec Ideal S32x1024x2048 .fp8e4m3)
  (x7 : Vec Ideal S32x1x2048 .f32)

theorem stored_eq (i : S16x40960x128.Idx) : out0_8 x0 x1 x2 x3 x4 x5 x6 x7 i = planes (k0_pay105 x0 x1 x2 x3 x4 x5 x6 x7) i := by
  refine View.canon_apply_of_pieces (Val := Elt Ideal) (e := .f32) (planes (k0_pay105 x0 x1 x2 x3 x4 x5 x6 x7)) _ ?_ i (cover0_8 _ _ _ _ _ _ _ _ _ _ _ _ _ _ _ _ i)
  intro p hp
  simp only [List.mem_cons, List.not_mem_nil, or_false] at hp
  rcases hp with rfl | rfl | rfl | rfl | rfl | rfl | rfl | rfl | rfl | rfl | rfl | rfl | rfl | rfl | rfl | rfl
  · exact piece (k0_pay105 x0 x1 x2 x3 x4 x5 x6 x7) 15 (by omega) (k0_pay2 (k0_pay105 x0 x1 x2 x3 x4 x5 x6 x7)) inb_S16x40960x128_S1x40960x128_15_0_0 fun r l => plane15 (k0_pay105 x0 x1 x2 x3 x4 x5 x6 x7) r l
  · exact piece (k0_pay105 x0 x1 x2 x3 x4 x5 x6 x7) 14 (by omega) (k0_pay1 (k0_pay91 (k0_pay105 x0 x1 x2 x3 x4 x5 x6 x7))) inb_S16x40960x128_S1x40960x128_14_0_0 fun r l => plane14 (k0_pay105 x0 x1 x2 x3 x4 x5 x6 x7) r l
  · exact piece (k0_pay105 x0 x1 x2 x3 x4 x5 x6 x7) 13 (by omega) (k0_pay90 (k0_pay105 x0 x1 x2 x3 x4 x5 x6 x7)) inb_S16x40960x128_S1x40960x128_13_0_0 fun r l => plane13 (k0_pay105 x0 x1 x2 x3 x4 x5 x6 x7) r l
  · exact piece (k0_pay105 x0 x1 x2 x3 x4 x5 x6 x7) 12 (by omega) (k0_pay89 (k0_pay105 x0 x1 x2 x3 x4 x5 x6 x7)) inb_S16x40960x128_S1x40960x128_12_0_0 fun r l => plane12 (k0_pay105 x0 x1 x2 x3 x4 x5 x6 x7) r l
  · exact piece (k0_pay105 x0 x1 x2 x3 x4 x5 x6 x7) 11 (by omega) (k0_pay88 (k0_pay105 x0 x1 x2 x3 x4 x5 x6 x7)) inb_S16x40960x128_S1x40960x128_11_0_0 fun r l => plane11 (k0_pay105 x0 x1 x2 x3 x4 x5 x6 x7) r l
  · exact piece (k0_pay105 x0 x1 x2 x3 x4 x5 x6 x7) 10 (by omega) (k0_pay87 (k0_pay105 x0 x1 x2 x3 x4 x5 x6 x7)) inb_S16x40960x128_S1x40960x128_10_0_0 fun r l => plane10 (k0_pay105 x0 x1 x2 x3 x4 x5 x6 x7) r l
  · exact piece (k0_pay105 x0 x1 x2 x3 x4 x5 x6 x7) 9 (by omega) (k0_pay86 (k0_pay105 x0 x1 x2 x3 x4 x5 x6 x7)) inb_S16x40960x128_S1x40960x128_9_0_0 fun r l => plane9 (k0_pay105 x0 x1 x2 x3 x4 x5 x6 x7) r l
  · exact piece (k0_pay105 x0 x1 x2 x3 x4 x5 x6 x7) 8 (by omega) (k0_pay85 (k0_pay105 x0 x1 x2 x3 x4 x5 x6 x7)) inb_S16x40960x128_S1x40960x128_8_0_0 fun r l => plane8 (k0_pay105 x0 x1 x2 x3 x4 x5 x6 x7) r l
  · exact piece (k0_pay105 x0 x1 x2 x3 x4 x5 x6 x7) 7 (by omega) (k0_pay84 (k0_pay105 x0 x1 x2 x3 x4 x5 x6 x7)) inb_S16x40960x128_S1x40960x128_7_0_0 fun r l => plane7 (k0_pay105 x0 x1 x2 x3 x4 x5 x6 x7) r l
  · exact piece (k0_pay105 x0 x1 x2 x3 x4 x5 x6 x7) 6 (by omega) (k0_pay83 (k0_pay105 x0 x1 x2 x3 x4 x5 x6 x7)) inb_S16x40960x128_S1x40960x128_6_0_0 fun r l => plane6 (k0_pay105 x0 x1 x2 x3 x4 x5 x6 x7) r l
  · exact piece (k0_pay105 x0 x1 x2 x3 x4 x5 x6 x7) 5 (by omega) (k0_pay82 (k0_pay105 x0 x1 x2 x3 x4 x5 x6 x7)) inb_S16x40960x128_S1x40960x128_5_0_0 fun r l => plane5 (k0_pay105 x0 x1 x2 x3 x4 x5 x6 x7) r l
  · exact piece (k0_pay105 x0 x1 x2 x3 x4 x5 x6 x7) 4 (by omega) (k0_pay81 (k0_pay105 x0 x1 x2 x3 x4 x5 x6 x7)) inb_S16x40960x128_S1x40960x128_4_0_0 fun r l => plane4 (k0_pay105 x0 x1 x2 x3 x4 x5 x6 x7) r l
  · exact piece (k0_pay105 x0 x1 x2 x3 x4 x5 x6 x7) 3 (by omega) (k0_pay80 (k0_pay79 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65))) inb_S16x40960x128_S1x40960x128_3_0_0 fun r l => plane3 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65) r l
  · exact piece (k0_pay105 x0 x1 x2 x3 x4 x5 x6 x7) 2 (by omega) (k0_pay78 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65)) inb_S16x40960x128_S1x40960x128_2_0_0 fun r l => plane2 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65) r l
  · exact piece (k0_pay105 x0 x1 x2 x3 x4 x5 x6 x7) 1 (by omega) (k0_pay77 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65)) inb_S16x40960x128_S1x40960x128_1_0_0 fun r l => plane1 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65) r l
  · exact piece (k0_pay105 x0 x1 x2 x3 x4 x5 x6 x7) 0 (by omega) (k0_pay76 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65)) inb_S16x40960x128_S1x40960x128_0_0_0 fun r l => plane0 (k0_pay92 x0 x1 x2 x3 x4 x5 x6 x7) (k0_pay101 x0 x1 x2 x3 x4 x5 x6 x7) (k0_pay102 x0 x1 x2 x3 x4 x5 x6 x7) (k0_pay103 x0 x1 x2 x3 x4 x5 x6 x7) (k0_pay104 x0 x1 x2 x3 x4 x5 x6 x7) (View.ld x7 r0_64) (View.ld x7 r0_65) r l

end Cert.ReferenceIdeal.Run
-- ==== Proof.Ref.Value.lean ====
module

public import proofs.«01_k».proof.Proof.Ref.Planes

@[expose] public section

noncomputable section

namespace Cert.ReferenceIdeal.Run

open Idealize.ShloMosaic Cert.ReferenceIdeal Cert.ReferenceIdeal.Gen Cert.ReferenceIdeal.Facts
open Idealize.ShloMosaic.TcCoe Idealize.SL.Sem
open Idealize.ShloMosaic.Pipeline (Dat)

/-! The reference's run: its result array is the sixteen planes of its result, its arguments are as launched. -/

variable (m : (ℓ : Loc nD τ sig) → Buf (Elt Ideal) ℓ) (ρ : Dev nD → PrngReg)

/-- The one grid point. -/
def t₀ : Fin cfg0.N := ⟨0, by decide⟩

/-- The result array after the one grid point is what that point writes back. -/
theorem final_out (c : Dev nD) :
    ((cfg0.win (8 : Fin 9)).blk t₀).view.read (Elt Ideal) ((dats m 0 c).arrAt (8 : Fin 9) cfg0.N) = (dats m 0 c).flushed (8 : Fin 9) t₀ := by
  rw [show cfg0.N = (t₀ : Fin cfg0.N).val + 1 from rfl, (dats m 0 c).arrAt_succ (8 : Fin 9) t₀]
  rw [show (cfg0.win (8 : Fin 9)).flush t₀ = true from by decide, if_pos rfl]
  exact View.read_write_univ _ _

theorem block0 (c : Dev nD) : iblk m c 0 t₀ = V m c main_v4 := by
  have hz : (fun a => (win0_0.index t₀) a * main_v4.ty.shape.size a) = fun _ => 0 := funext fun a => by fin_cases a <;> decide
  exact Memref.read_access_unit_zero (Elt Ideal) main_v4 hz (fun a => by fin_cases a <;> decide) _

theorem block1 (c : Dev nD) : iblk m c 1 t₀ = V m c main_v7 := by
  have hz : (fun a => (win0_1.index t₀) a * main_v7.ty.shape.size a) = fun _ => 0 := funext fun a => by fin_cases a <;> decide
  exact Memref.read_access_unit_zero (Elt Ideal) main_v7 hz (fun a => by fin_cases a <;> decide) _

theorem block2 (c : Dev nD) : iblk m c 2 t₀ = V m c main_v12 := by
  have hz : (fun a => (win0_2.index t₀) a * main_v12.ty.shape.size a) = fun _ => 0 := funext fun a => by fin_cases a <;> decide
  exact Memref.read_access_unit_zero (Elt Ideal) main_v12 hz (fun a => by fin_cases a <;> decide) _

theorem block3 (c : Dev nD) : iblk m c 3 t₀ = V m c main_v17 := by
  have hz : (fun a => (win0_3.index t₀) a * main_v17.ty.shape.size a) = fun _ => 0 := funext fun a => by fin_cases a <;> decide
  exact Memref.read_access_unit_zero (Elt Ideal) main_v17 hz (fun a => by fin_cases a <;> decide) _

theorem block4 (c : Dev nD) : iblk m c 4 t₀ = V m c main_arg3 := by
  have hz : (fun a => (win0_4.index t₀) a * main_arg3.ty.shape.size a) = fun _ => 0 := funext fun a => by fin_cases a <;> decide
  exact Memref.read_access_unit_zero (Elt Ideal) main_arg3 hz (fun a => by fin_cases a <;> decide) _

theorem block5 (c : Dev nD) : iblk m c 5 t₀ = V m c main_arg4 := by
  have hz : (fun a => (win0_5.index t₀) a * main_arg4.ty.shape.size a) = fun _ => 0 := funext fun a => by fin_cases a <;> decide
  exact Memref.read_access_unit_zero (Elt Ideal) main_arg4 hz (fun a => by fin_cases a <;> decide) _

theorem block6 (c : Dev nD) : iblk m c 6 t₀ = V m c main_arg5 := by
  have hz : (fun a => (win0_6.index t₀) a * main_arg5.ty.shape.size a) = fun _ => 0 := funext fun a => by fin_cases a <;> decide
  exact Memref.read_access_unit_zero (Elt Ideal) main_arg5 hz (fun a => by fin_cases a <;> decide) _

theorem block7 (c : Dev nD) : iblk m c 7 t₀ = V m c main_arg6 := by
  have hz : (fun a => (win0_7.index t₀) a * main_arg6.ty.shape.size a) = fun _ => 0 := funext fun a => by fin_cases a <;> decide
  exact Memref.read_access_unit_zero (Elt Ideal) main_arg6 hz (fun a => by fin_cases a <;> decide) _

/-- The result array after the run. -/
def result (c : Dev nD) : FVec Ideal S40960x2048 .f32 :=
  k0_pay105 (expertV (m ((c : Thread nD τ).loc main_arg0))) (bytesV (m ((c : Thread nD τ).loc main_arg1)))
    (scalesV (m ((c : Thread nD τ).loc main_arg2))) (gatesV (m ((c : Thread nD τ).loc main_arg2)))
    (m ((c : Thread nD τ).loc main_arg3)) (m ((c : Thread nD τ).loc main_arg4))
    (m ((c : Thread nD τ).loc main_arg5)) (m ((c : Thread nD τ).loc main_arg6))

theorem final (c : Dev nD) : (dats m 0 c).arrAt 8 cfg0.N = planes (result m c) := by
  have ho := final_out m c
  have hz : (fun a => (win0_8.index t₀) a * main_v18.ty.shape.size a) = fun _ => 0 := funext fun a => by fin_cases a <;> decide
  have hr := fun f => Memref.read_access_unit_zero (Elt Ideal) main_v18 hz (fun a => by fin_cases a <;> decide) f
  have hl : ((cfg0.win (8 : Fin 9)).blk t₀).view.read (Elt Ideal) ((dats m 0 c).arrAt (8 : Fin 9) cfg0.N)
      = (dats m 0 c).arrAt (8 : Fin 9) cfg0.N := hr _
  rw [hl] at ho
  refine ho.trans ?_
  show (cfg0.win (8 : Fin 9)).cut _ ((dats m 0 c).after 8 t₀) = _
  rw [after0_8, block0, block1, block2, block3, block4, block5, block6, block7, V_expert, V_bytes, V_scales, V_gates,
    V_main_arg3, V_main_arg4, V_main_arg5, V_main_arg6]
  funext i
  exact stored_eq _ _ _ _ _ _ _ _ i

/-- The reference's run, its result array named, its arguments as launched. -/
theorem run : θ_run defs (onTc (τ := τ) (main (F := Ideal))) ⟨m, fun _ => 0, ρ⟩ fun r => ∀ c : Dev nD,
      r.2.mem ((c : Thread nD τ).loc main_v18) = planes (result m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 8).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c)))⟩)
    (run_main m ρ)

/-- A row of the result, from the words, scale and gate of the row and the weights of its expert. -/
theorem result_row (c : Dev nD) (r : Fin 40960) (e : Fin 32)
    (he : (m ((c : Thread nD τ).loc main_arg0) : IVec S2x256 32) (ix2 0 ⟨r.val / 256, by omega⟩) = BitVec.ofNat 32 e.val) (j : Fin 2048) :
    result m c (ix2 r j) = Row.out
      (fun k => Ideal.ofBits .fp8e4m3 (((m ((c : Thread nD τ).loc main_arg1) : IVec S4x40960x128 32)
        (ix3 ⟨k.val / 512, by omega⟩ r ⟨k.val % 128, by omega⟩)).extractLsb' (k.val / 128 % 4 * 8) 8))
      ((m ((c : Thread nD τ).loc main_arg2) : FVec Ideal S2x328x128 .f32) (ix3 0 ⟨r.val / 128, by omega⟩ ⟨r.val % 128, by omega⟩))
      ((m ((c : Thread nD τ).loc main_arg2) : FVec Ideal S2x328x128 .f32) (ix3 1 ⟨r.val / 128, by omega⟩ ⟨r.val % 128, by omega⟩))
      (fun x j => (m ((c : Thread nD τ).loc main_arg3) : FVec Ideal S32x2048x2048 .fp8e4m3) (ix3 e x j))
      (fun j => (m ((c : Thread nD τ).loc main_arg4) : FVec Ideal S32x1x2048 .f32) (ix3 e 0 j))
      (fun x j => (m ((c : Thread nD τ).loc main_arg5) : FVec Ideal S32x1024x2048 .fp8e4m3) (ix3 e x j))
      (fun j => (m ((c : Thread nD τ).loc main_arg6) : FVec Ideal S32x1x2048 .f32) (ix3 e 0 j)) j := by
  unfold result
  rw [row_apply _ _ _ _ _ _ _ _ r e ((expertV_apply _ r).trans he) j, scalesV_apply, gatesV_apply]
  simp only [bytesV_apply]

end Cert.ReferenceIdeal.Run
-- ==== Proof.KI.Exponent.lean ====
module

public import proofs.«01_k».proof.Proof.KI.Frame
public import proofs.«01_k».proof.Proof.Ref.Value
public import Idealize.ShloMosaic.Lib.Pointwise

@[expose] public section

noncomputable section

namespace Cert.KernelIdeal.Run

open Cert.KernelIdeal Cert.KernelIdeal.Gen Idealize.ShloMosaic

/-! The kernel's exponent of a row, by binary search, is the exponent `Scale.expo` of the greatest magnitude over 448. -/

theorem max_over (q : FVec Ideal S256x1 .f32) (r : Fin 256) :
    k0_pay32 q (ix2 r 0) = q (ix2 r 0) * Ideal.ofBits .f32 0x3B124925#32 := by
  pointwise [k0_pay32]

/-- The first four steps of the search. -/
theorem field_high (q : FVec Ideal S256x1 .f32) (r : Fin 256) (y : EReal) (hy : q (ix2 r 0) * Ideal.ofBits .f32 0x3B124925#32 = y) :
    k0_pay33 q (ix2 r 0) = Scale.step y 16#32 (Scale.step y 32#32 (Scale.step y 64#32 (Scale.step y 128#32 0#32))) := by
  subst hy
  pointwise [k0_pay33, k0_pay32]
  rfl

/-- The power the fifth step compares with. -/
theorem field_power (q : FVec Ideal S256x1 .f32) (r : Fin 256) :
    k0_pay34 q (ix2 r 0) = Scale.pow (IntOp.addi (k0_pay33 q (ix2 r 0)) 8#32) := by
  pointwise [k0_pay34]
  rfl

/-- The steps from the fifth on, and the two ends of the range. -/
def low (y u : EReal) (v : BitVec 32) : BitVec 32 :=
  let b : BitVec 32 := if (Ideal.ofBits .f32 0x7B800000#32 : EReal) ≤ y then 255#32 else
    Scale.step y 1#32 (Scale.step y 2#32 (Scale.step y 4#32 (if u ≤ y then IntOp.addi v 8#32 else v)))
  if IntOp.ori (BitVec.ofBool (b == 0#32)) (BitVec.ofBool (b == 255#32)) = 1#1 then 0#32 else IntOp.subi b 126#32

theorem field_low (q u : FVec Ideal S256x1 .f32) (v : IVec S256x1 32) (r : Fin 256) :
    k0_pay35 q v u (ix2 r 0) = low (q (ix2 r 0)) (u (ix2 r 0)) (v (ix2 r 0)) := by
  pointwise [k0_pay35]
  generalize q (ix2 r 0) = y
  generalize u (ix2 r 0) = u
  generalize v (ix2 r 0) = v
  generalize hb : (if u ≤ y then IntOp.addi v 8#32 else v) = b8
  have h4 : ∀ b s, (if Ideal.ofBits FTy.f32 (IntOp.shli ArithUnit.vector (IntOp.addi b s) 23#32) ≤ y then IntOp.addi b s else b)
      = Scale.step y s b := fun _ _ => rfl
  simp only [h4]
  unfold low
  rw [hb]
  rfl

theorem either_bit (a b : Bool) : (IntOp.ori (BitVec.ofBool a) (BitVec.ofBool b) = 1#1) ↔ (a = true ∨ b = true) := by
  cases a <;> cases b <;> decide

/-- The whole search. -/
theorem exponent (q : FVec Ideal S256x1 .f32) (r : Fin 256) (y : EReal) (hy : q (ix2 r 0) * Ideal.ofBits .f32 0x3B124925#32 = y) :
    k0_pay35 (k0_pay32 q) (k0_pay33 q) (k0_pay34 q) (ix2 r 0) = Scale.expo y := by
  rw [field_low, field_power, max_over, field_high q r y hy, hy]
  unfold low Scale.expo
  simp only [either_bit, beq_iff_eq]
  rfl

/-- A row's entry of a meta plane: rows 0–127 in the first line, the others in the second. -/
def side (v : Vec Ideal S8x128 .f32) (r : Fin 256) : EReal :=
  if h : r.val < 128 then v (ix2 0 ⟨r.val, h⟩) else v (ix2 1 ⟨r.val - 128, by omega⟩)

theorem side_apply (v : Vec Ideal S8x128 .f32) (r : Fin 256) : k0_pay29 v (ix2 r 0) = side v r := by
  pointwise [k0_pay29]
  rfl

theorem act_apply (v : Vec Ideal S8x128 .f32) (q : Vec Ideal S256x2048 .fp8e4m3) (wu : Vec Ideal S1x2048x2048 .fp8e4m3) (su : Vec Ideal S1x1x2048 .f32)
    (r : Fin 256) (j : Fin 1024) : k0_pay30 v q wu su (ix2 r j)
      = Row.act (fun x => q (ix2 r x)) (side v r) (fun x j => wu (ix3 0 x j)) (fun j => su (ix3 0 0 j)) j := by
  pointwise [k0_pay30]
  rfl

theorem top_apply (v : Vec Ideal S8x128 .f32) (q : Vec Ideal S256x2048 .fp8e4m3) (wu : Vec Ideal S1x2048x2048 .fp8e4m3) (su : Vec Ideal S1x1x2048 .f32)
    (r : Fin 256) : k0_pay31 v q wu su (ix2 r 0) * Ideal.ofBits .f32 0x3B124925#32
      = Row.top (fun x => q (ix2 r x)) (side v r) (fun x j => wu (ix3 0 x j)) (fun j => su (ix3 0 0 j)) := by
  pointwise [k0_pay31]
  simp only [act_apply]
  rfl

/-- The block's result before it is cut into planes. -/
def block (v w : Vec Ideal S8x128 .f32) (q : Vec Ideal S256x2048 .fp8e4m3) (wu : Vec Ideal S1x2048x2048 .fp8e4m3) (su : Vec Ideal S1x1x2048 .f32)
    (wd : Vec Ideal S1x1024x2048 .fp8e4m3) (sd : Vec Ideal S1x1x2048 .f32) : FVec Ideal S256x2048 .f32 :=
  k0_pay36 (k0_pay29 w) (k0_pay30 v q wu su)
    (k0_pay35 (k0_pay32 (k0_pay31 v q wu su)) (k0_pay33 (k0_pay31 v q wu su)) (k0_pay34 (k0_pay31 v q wu su))) wd sd

theorem down_apply (g : FVec Ideal S256x1 .f32) (a : FVec Ideal S256x1024 .f32) (e : IVec S256x1 32) (wd : Vec Ideal S1x1024x2048 .fp8e4m3)
    (sd : Vec Ideal S1x1x2048 .f32) (r : Fin 256) (j : Fin 2048) : k0_pay36 g a e wd sd (ix2 r j)
      = (∑ x : Fin 1024, min (Ideal.ofBits .f32 0x43E00000#32) (max (Ideal.ofBits .f32 0xC3E00000#32)
          (a (ix2 r x) * Scale.pow (IntOp.subi 127#32 (e (ix2 r 0))))) * wd (ix3 0 x j))
        * (Scale.pow (IntOp.addi 127#32 (e (ix2 r 0))) * g (ix2 r 0)) * sd (ix3 0 0 j) := by
  pointwise [k0_pay36]
  rfl

theorem block_apply (v w : Vec Ideal S8x128 .f32) (q : Vec Ideal S256x2048 .fp8e4m3) (wu : Vec Ideal S1x2048x2048 .fp8e4m3) (su : Vec Ideal S1x1x2048 .f32)
    (wd : Vec Ideal S1x1024x2048 .fp8e4m3) (sd : Vec Ideal S1x1x2048 .f32) (r : Fin 256) (j : Fin 2048) :
    block v w q wu su wd sd (ix2 r j) = Row.out (fun x => q (ix2 r x)) (side v r) (side w r) (fun x j => wu (ix3 0 x j))
      (fun j => su (ix3 0 0 j)) (fun x j => wd (ix3 0 x j)) (fun j => sd (ix3 0 0 j)) j := by
  unfold block
  rw [down_apply, exponent _ r _ (top_apply v q wu su r), side_apply]
  simp only [act_apply]
  unfold Row.out Row.code
  obtain ⟨h1, h2⟩ := Scale.scale_spec (Row.top (fun x => q (ix2 r x)) (side v r) (fun x j => wu (ix3 0 x j)) (fun j => su (ix3 0 0 j)))
  simp only [h1, h2]

end Cert.KernelIdeal.Run
-- ==== Proof.KI.Lanes.lean ====
module

public import proofs.«01_k».proof.Proof.KI.Exponent
public import Idealize.ShloMosaic.Lib.Pipeline.Value

@[expose] public section

set_option maxRecDepth 16384

noncomputable section

namespace Cert.KernelIdeal.Run

open Cert.KernelIdeal Cert.KernelIdeal.Gen Idealize.ShloMosaic Idealize.ShloMosaic.Tactic

/-! The scratch holds the tokens' codes: byte `b` of word plane `m` in the 128 columns from `512 m + 128 b` on. -/

/-- Byte `b` of a word, as a code. -/
def byte (w : BitVec 32) (b : ℕ) : EReal := Ideal.ofBits .fp8e4m3 (w.extractLsb' (b * 8) 8)

theorem byte0 (w : BitVec 32) : Ideal.ofBits .fp8e4m3 (BitVec.setWidth 8 w) = byte w 0 := by
  unfold byte
  congr 1

theorem shift_byte (w : BitVec 32) (b : ℕ) (hb : b < 4) :
    BitVec.setWidth 8 (IntOp.shrsi .vector w (BitVec.ofNat 32 (b * 8))) = w.extractLsb' (b * 8) 8 := by
  unfold IntOp.shrsi
  have e : (BitVec.ofNat 32 (b * 8)).toNat = b * 8 := by rw [BitVec.toNat_ofNat]; omega
  rw [if_pos (by rw [e]; omega), BitVec.sshiftRight_eq', e]
  apply BitVec.eq_of_getLsbD_eq
  intro i hi
  rw [BitVec.getLsbD_setWidth, BitVec.getLsbD_sshiftRight, BitVec.getLsbD_extractLsb']
  have h1 : ¬ (32 ≤ i) := by omega
  simp [hi, h1, show b * 8 + i < 32 by omega]

theorem byte1 (w : BitVec 32) : Ideal.ofBits .fp8e4m3 (BitVec.setWidth 8 (IntOp.shrsi .vector w 8#32)) = byte w 1 := by
  rw [show (8#32 : BitVec 32) = BitVec.ofNat 32 (1 * 8) from rfl, shift_byte w 1 (by omega)]; rfl

theorem byte2 (w : BitVec 32) : Ideal.ofBits .fp8e4m3 (BitVec.setWidth 8 (IntOp.shrsi .vector w 16#32)) = byte w 2 := by
  rw [show (16#32 : BitVec 32) = BitVec.ofNat 32 (2 * 8) from rfl, shift_byte w 2 (by omega)]; rfl

theorem byte3 (w : BitVec 32) : Ideal.ofBits .fp8e4m3 (BitVec.setWidth 8 (IntOp.shrsi .vector w 24#32)) = byte w 3 := by
  rw [show (24#32 : BitVec 32) = BitVec.ofNat 32 (3 * 8) from rfl, shift_byte w 3 (by omega)]; rfl

section
variable (w : Vec Ideal S1x256x128 .i32) (r : Fin 256) (l : Fin 128)

theorem lane0 : (k0_pay8 w : FVec Ideal S256x128 .fp8e4m3) (ix2 r l) = byte (w (ix3 0 r l)) 0 := by
  refine Eq.trans ?_ (byte0 _)
  pointwise [k0_pay8, k0_pay7]

theorem lane1 : (k0_pay9 w : FVec Ideal S256x128 .fp8e4m3) (ix2 r l) = byte (w (ix3 0 r l)) 1 := by
  refine Eq.trans ?_ (byte1 _)
  pointwise [k0_pay9, k0_pay7]

theorem lane2 : (k0_pay10 w : FVec Ideal S256x128 .fp8e4m3) (ix2 r l) = byte (w (ix3 0 r l)) 2 := by
  refine Eq.trans ?_ (byte2 _)
  pointwise [k0_pay10, k0_pay7]

theorem lane3 : (k0_pay11 w : FVec Ideal S256x128 .fp8e4m3) (ix2 r l) = byte (w (ix3 0 r l)) 3 := by
  refine Eq.trans ?_ (byte3 _)
  pointwise [k0_pay11, k0_pay7]

theorem lane4 : (k0_pay13 w : FVec Ideal S256x128 .fp8e4m3) (ix2 r l) = byte (w (ix3 0 r l)) 0 := by
  refine Eq.trans ?_ (byte0 _)
  pointwise [k0_pay13, k0_pay12]

theorem lane5 : (k0_pay14 (k0_pay12 w) 8#32 : FVec Ideal S256x128 .fp8e4m3) (ix2 r l) = byte (w (ix3 0 r l)) 1 := by
  refine Eq.trans ?_ (byte1 _)
  pointwise [k0_pay14, k0_pay12]

theorem lane6 : (k0_pay15 (k0_pay12 w) : FVec Ideal S256x128 .fp8e4m3) (ix2 r l) = byte (w (ix3 0 r l)) 2 := by
  refine Eq.trans ?_ (byte2 _)
  pointwise [k0_pay15, k0_pay12]

theorem lane7 : (k0_pay16 (k0_pay12 w) : FVec Ideal S256x128 .fp8e4m3) (ix2 r l) = byte (w (ix3 0 r l)) 3 := by
  refine Eq.trans ?_ (byte3 _)
  pointwise [k0_pay16, k0_pay12]

theorem lane8 : (k0_pay18 w : FVec Ideal S256x128 .fp8e4m3) (ix2 r l) = byte (w (ix3 0 r l)) 0 := by
  refine Eq.trans ?_ (byte0 _)
  pointwise [k0_pay18, k0_pay17]

theorem lane9 : (k0_pay19 w : FVec Ideal S256x128 .fp8e4m3) (ix2 r l) = byte (w (ix3 0 r l)) 1 := by
  refine Eq.trans ?_ (byte1 _)
  pointwise [k0_pay19, k0_pay17]

theorem lane10 : (k0_pay21 (k0_pay20 w) : FVec Ideal S256x128 .fp8e4m3) (ix2 r l) = byte (w (ix3 0 r l)) 2 := by
  refine Eq.trans ?_ (byte2 _)
  pointwise [k0_pay21, k0_pay20, k0_pay17]

theorem lane11 : (k0_pay22 (k0_pay17 w) : FVec Ideal S256x128 .fp8e4m3) (ix2 r l) = byte (w (ix3 0 r l)) 3 := by
  refine Eq.trans ?_ (byte3 _)
  pointwise [k0_pay22, k0_pay17]

theorem lane12 : (k0_pay24 w : FVec Ideal S256x128 .fp8e4m3) (ix2 r l) = byte (w (ix3 0 r l)) 0 := by
  refine Eq.trans ?_ (byte0 _)
  pointwise [k0_pay24, k0_pay23]

theorem lane13 : (k0_pay25 w : FVec Ideal S256x128 .fp8e4m3) (ix2 r l) = byte (w (ix3 0 r l)) 1 := by
  refine Eq.trans ?_ (byte1 _)
  pointwise [k0_pay25, k0_pay23]

theorem lane14 : (k0_pay26 w : FVec Ideal S256x128 .fp8e4m3) (ix2 r l) = byte (w (ix3 0 r l)) 2 := by
  refine Eq.trans ?_ (byte2 _)
  pointwise [k0_pay26, k0_pay23]

theorem lane15 : (k0_pay28 (k0_pay27 w) : FVec Ideal S256x128 .fp8e4m3) (ix2 r l) = byte (w (ix3 0 r l)) 3 := by
  refine Eq.trans ?_ (byte3 _)
  pointwise [k0_pay28, k0_pay27, k0_pay23]

end

/-- The scratch's contents. -/
def lanes (x0 : Vec Ideal S4x256x128 .i32) (i : S256x2048.Idx) : EReal :=
  byte (x0 (ix3 ⟨(i 1).val / 512, by have h : (i 1).val < 2048 := (i 1).isLt; omega⟩ (i 0) ⟨(i 1).val % 128, by omega⟩)) ((i 1).val / 128 % 4)

theorem lanes_piece (x0 : Vec Ideal S4x256x128 .i32) (m : Fin 4) (b o : ℕ) (hb : b < 4) (ho : o = 512 * m.val + 128 * b) (w : FVec Ideal S256x128 .fp8e4m3)
    (inb : ∀ a, (![0, o] : Fin 2 → ℕ) a + S256x128.size a ≤ S256x2048.size a)
    (hw : ∀ (r : Fin 256) (l : Fin 128), w (ix2 r l) = byte (x0 (ix3 m r l)) b) (x : S256x128.Idx) :
    w x = lanes x0 ((Rect.unit (s := S256x2048) ![0, o] S256x128.size inb).emb x) := by
  obtain ⟨r, l, rfl⟩ : ∃ (r : Fin 256) (l : Fin 128), x = (ix2 r l : S256x128.Idx) := ⟨x 0, x 1, by
    funext a
    match a with
    | ⟨0, _⟩ => rfl
    | ⟨1, _⟩ => rfl⟩
  rw [hw]
  unfold lanes
  have e0 : ((Rect.unit (s := S256x2048) ![0, o] S256x128.size inb).emb (ix2 r l : S256x128.Idx) 0).val = r.val := by
    rw [Rect.emb_apply]; show 0 + 1 * r.val = _; omega
  have e1 : ((Rect.unit (s := S256x2048) ![0, o] S256x128.size inb).emb (ix2 r l : S256x128.Idx) 1).val = o + l.val := by
    rw [Rect.emb_apply]; show o + 1 * l.val = _; omega
  have hl := l.isLt
  congr 2
  · congr 1
    · apply Fin.ext; show m.val = _ / 512; rw [e1]; omega
    · apply Fin.ext; show r.val = _; rw [e0]
    · apply Fin.ext; show l.val = _ % 128; rw [e1]; omega
  · rw [e1]; omega

/-- A word plane as the body loads it. -/
def word (arg2 : Memref sig .tc .vmem S4x256x128 .i32) (x0 : Vec Ideal S4x256x128 .i32) (m : ℕ)
    (inb : ∀ a, (![m, 0, 0] : Fin 3 → ℕ) a + S1x256x128.size a ≤ S4x256x128.size a) : Vec Ideal S1x256x128 .i32 :=
  View.readAt (Elt Ideal) arg2.view (Rect.unit (s := S4x256x128) ![m, 0, 0] S1x256x128.size inb).toLoadRect (arg2.view.rep x0)

theorem word_apply (arg2 : Memref sig .tc .vmem S4x256x128 .i32) (x0 : Vec Ideal S4x256x128 .i32) (m : Fin 4)
    (inb : ∀ a, (![m.val, 0, 0] : Fin 3 → ℕ) a + S1x256x128.size a ≤ S4x256x128.size a) (r : Fin 256) (l : Fin 128) :
    word arg2 x0 m.val inb (ix3 0 r l) = x0 (ix3 m r l) := by
  unfold word
  rw [View.readAt_rep]
  refine congrArg x0 (funext fun a => Fin.ext ?_)
  match a with
  | ⟨0, _⟩ => show m.val + 1 * 0 = m.val; omega
  | ⟨1, _⟩ => show 0 + 1 * r.val = r.val; omega
  | ⟨2, _⟩ => show 0 + 1 * l.val = l.val; omega

theorem scratch_eq (arg2 : Memref sig .tc .vmem S4x256x128 .i32) (x0 : Vec Ideal S4x256x128 .i32) :
    kernelRun0_A.sl.v134 arg2 x0 = lanes x0 := by
  unfold kernelRun0_A.sl.v134
  rw [View.readCov_eq_canon']
  funext j
  have ej : (Rect.unit (s := S256x2048) ![0, 0] S256x2048.size inb_S256x2048_S256x2048_0_0).toLoadRect.idx j = j :=
    funext fun a => Fin.ext (by
      match a with
      | ⟨0, _⟩ => show 0 + 1 * (j 0).val = (j 0).val; omega
      | ⟨1, _⟩ => show 0 + 1 * (j 1).val = (j 1).val; omega)
  rw [ej]
  refine View.canon_apply_of_pieces (Val := Elt Ideal) (e := .fp8e4m3) (lanes x0) _ ?_ j
    (View.cover_of_tiledL (kernelRun0_A.sl.HS0_16 arg2 x0) S256x128.size (by sl_kernel_rfl) j)
  intro p hp
  unfold kernelRun0_A.sl.HS0_16 kernelRun0_A.sl.r_1 kernelRun0_A.sl.r_2 kernelRun0_A.sl.r_3 kernelRun0_A.sl.r_4 at hp
  simp only [List.mem_cons, List.not_mem_nil, or_false] at hp
  rcases hp with rfl | rfl | rfl | rfl | rfl | rfl | rfl | rfl | rfl | rfl | rfl | rfl | rfl | rfl | rfl | rfl
  · exact lanes_piece x0 3 3 1920 (by omega) rfl (k0_pay28 (k0_pay27 (word arg2 x0 3 inb_S4x256x128_S1x256x128_3_0_0))) inb_S256x2048_S256x128_0_1920
      fun r l => (lane15 _ r l).trans (congrArg (byte · 3) (word_apply arg2 x0 3 inb_S4x256x128_S1x256x128_3_0_0 r l))
  · exact lanes_piece x0 3 2 1792 (by omega) rfl (k0_pay26 (word arg2 x0 3 inb_S4x256x128_S1x256x128_3_0_0)) inb_S256x2048_S256x128_0_1792
      fun r l => (lane14 _ r l).trans (congrArg (byte · 2) (word_apply arg2 x0 3 inb_S4x256x128_S1x256x128_3_0_0 r l))
  · exact lanes_piece x0 3 1 1664 (by omega) rfl (k0_pay25 (word arg2 x0 3 inb_S4x256x128_S1x256x128_3_0_0)) inb_S256x2048_S256x128_0_1664
      fun r l => (lane13 _ r l).trans (congrArg (byte · 1) (word_apply arg2 x0 3 inb_S4x256x128_S1x256x128_3_0_0 r l))
  · exact lanes_piece x0 3 0 1536 (by omega) rfl (k0_pay24 (word arg2 x0 3 inb_S4x256x128_S1x256x128_3_0_0)) inb_S256x2048_S256x128_0_1536
      fun r l => (lane12 _ r l).trans (congrArg (byte · 0) (word_apply arg2 x0 3 inb_S4x256x128_S1x256x128_3_0_0 r l))
  · exact lanes_piece x0 2 3 1408 (by omega) rfl (k0_pay22 (k0_pay17 (word arg2 x0 2 inb_S4x256x128_S1x256x128_2_0_0))) inb_S256x2048_S256x128_0_1408
      fun r l => (lane11 _ r l).trans (congrArg (byte · 3) (word_apply arg2 x0 2 inb_S4x256x128_S1x256x128_2_0_0 r l))
  · exact lanes_piece x0 2 2 1280 (by omega) rfl (k0_pay21 (k0_pay20 (word arg2 x0 2 inb_S4x256x128_S1x256x128_2_0_0))) inb_S256x2048_S256x128_0_1280
      fun r l => (lane10 _ r l).trans (congrArg (byte · 2) (word_apply arg2 x0 2 inb_S4x256x128_S1x256x128_2_0_0 r l))
  · exact lanes_piece x0 2 1 1152 (by omega) rfl (k0_pay19 (word arg2 x0 2 inb_S4x256x128_S1x256x128_2_0_0)) inb_S256x2048_S256x128_0_1152
      fun r l => (lane9 _ r l).trans (congrArg (byte · 1) (word_apply arg2 x0 2 inb_S4x256x128_S1x256x128_2_0_0 r l))
  · exact lanes_piece x0 2 0 1024 (by omega) rfl (k0_pay18 (word arg2 x0 2 inb_S4x256x128_S1x256x128_2_0_0)) inb_S256x2048_S256x128_0_1024
      fun r l => (lane8 _ r l).trans (congrArg (byte · 0) (word_apply arg2 x0 2 inb_S4x256x128_S1x256x128_2_0_0 r l))
  · exact lanes_piece x0 1 3 896 (by omega) rfl (k0_pay16 (k0_pay12 (word arg2 x0 1 inb_S4x256x128_S1x256x128_1_0_0))) inb_S256x2048_S256x128_0_896
      fun r l => (lane7 _ r l).trans (congrArg (byte · 3) (word_apply arg2 x0 1 inb_S4x256x128_S1x256x128_1_0_0 r l))
  · exact lanes_piece x0 1 2 768 (by omega) rfl (k0_pay15 (k0_pay12 (word arg2 x0 1 inb_S4x256x128_S1x256x128_1_0_0))) inb_S256x2048_S256x128_0_768
      fun r l => (lane6 _ r l).trans (congrArg (byte · 2) (word_apply arg2 x0 1 inb_S4x256x128_S1x256x128_1_0_0 r l))
  · exact lanes_piece x0 1 1 640 (by omega) rfl (k0_pay14 (k0_pay12 (word arg2 x0 1 inb_S4x256x128_S1x256x128_1_0_0)) 8#32) inb_S256x2048_S256x128_0_640
      fun r l => (lane5 _ r l).trans (congrArg (byte · 1) (word_apply arg2 x0 1 inb_S4x256x128_S1x256x128_1_0_0 r l))
  · exact lanes_piece x0 1 0 512 (by omega) rfl (k0_pay13 (word arg2 x0 1 inb_S4x256x128_S1x256x128_1_0_0)) inb_S256x2048_S256x128_0_512
      fun r l => (lane4 _ r l).trans (congrArg (byte · 0) (word_apply arg2 x0 1 inb_S4x256x128_S1x256x128_1_0_0 r l))
  · exact lanes_piece x0 0 3 384 (by omega) rfl (k0_pay11 (word arg2 x0 0 inb_S4x256x128_S1x256x128_0_0_0)) inb_S256x2048_S256x128_0_384
      fun r l => (lane3 _ r l).trans (congrArg (byte · 3) (word_apply arg2 x0 0 inb_S4x256x128_S1x256x128_0_0_0 r l))
  · exact lanes_piece x0 0 2 256 (by omega) rfl (k0_pay10 (word arg2 x0 0 inb_S4x256x128_S1x256x128_0_0_0)) inb_S256x2048_S256x128_0_256
      fun r l => (lane2 _ r l).trans (congrArg (byte · 2) (word_apply arg2 x0 0 inb_S4x256x128_S1x256x128_0_0_0 r l))
  · exact lanes_piece x0 0 1 128 (by omega) rfl (k0_pay9 (word arg2 x0 0 inb_S4x256x128_S1x256x128_0_0_0)) inb_S256x2048_S256x128_0_128
      fun r l => (lane1 _ r l).trans (congrArg (byte · 1) (word_apply arg2 x0 0 inb_S4x256x128_S1x256x128_0_0_0 r l))
  · exact lanes_piece x0 0 0 0 (by omega) rfl (k0_pay8 (word arg2 x0 0 inb_S4x256x128_S1x256x128_0_0_0)) inb_S256x2048_S256x128_0_0
      fun r l => (lane0 _ r l).trans (congrArg (byte · 0) (word_apply arg2 x0 0 inb_S4x256x128_S1x256x128_0_0_0 r l))

end Cert.KernelIdeal.Run
-- ==== Proof.KI.Planes.lean ====
module

public import proofs.«01_k».proof.Proof.KI.Lanes

@[expose] public section

set_option maxRecDepth 16384

noncomputable section

namespace Cert.KernelIdeal.Run

open Cert.KernelIdeal Cert.KernelIdeal.Gen Idealize.ShloMosaic Idealize.ShloMosaic.TcCoe

/-! What a tile's body leaves in its output block: the columns of `block`, 128 to a plane. -/

/-- A block of rows, as sixteen planes of 128 columns. -/
def planes (W : FVec Ideal S256x2048 .f32) (i : S16x256x128.Idx) : Ideal .f32 :=
  W (ix2 (i 1) ⟨128 * (i 0).val + (i 2).val, by
    have h0 : (i 0).val < 16 := (i 0).isLt
    have h2 : (i 2).val < 128 := (i 2).isLt
    omega⟩)

theorem plane_piece (W : FVec Ideal S256x2048 .f32) (o : ℕ) (ho : o < 16) (w : FVec Ideal S1x256x128 .f32)
    (inb : ∀ a, (![o, 0, 0] : Fin 3 → ℕ) a + S1x256x128.size a ≤ S16x256x128.size a)
    (hw : ∀ (r : Fin 256) (l : Fin 128), w (ix3 0 r l) = W (ix2 r ⟨128 * o + l.val, by omega⟩)) (x : S1x256x128.Idx) :
    w x = planes W ((Rect.unit (s := S16x256x128) ![o, 0, 0] S1x256x128.size inb).emb x) := by
  obtain ⟨r, l, rfl⟩ : ∃ (r : Fin 256) (l : Fin 128), x = (ix3 0 r l : S1x256x128.Idx) := ⟨x 1, x 2, by
    funext a
    match a with
    | ⟨0, _⟩ => exact Subsingleton.elim (α := Fin 1) _ _
    | ⟨1, _⟩ => rfl
    | ⟨2, _⟩ => rfl⟩
  rw [hw]
  refine congrArg W ?_
  congr 1
  · apply Fin.ext; rw [Rect.emb_apply]; show r.val = 0 + 1 * r.val; omega
  · apply Fin.ext
    show 128 * o + l.val = 128 * _ + _
    rw [Rect.emb_apply, Rect.emb_apply]
    show 128 * o + l.val = 128 * (o + 1 * 0) + (0 + 1 * l.val)
    omega

/-- A plane cut out of a block. -/
def cut (o : ℕ) (W : FVec Ideal S256x2048 .f32) (h : S256x2048.Slices ![0, o] S256x128) : FVec Ideal S1x256x128 .f32 :=
  shapeCast S1x256x128 (extractStridedSlice S256x128 ![0, o] W h) shapeCasts_S256x128_S1x256x128

section
variable (W : FVec Ideal S256x2048 .f32) (r : Fin 256) (l : Fin 128)

theorem cut0 (h) : cut 0 W h (ix3 0 r l) = W (ix2 r ⟨128 * 0 + l.val, by omega⟩) := by
  pointwise [cut]

theorem cut1 (h) : cut 128 W h (ix3 0 r l) = W (ix2 r ⟨128 * 1 + l.val, by omega⟩) := by
  pointwise [cut]

theorem cut2 (h) : cut 256 W h (ix3 0 r l) = W (ix2 r ⟨128 * 2 + l.val, by omega⟩) := by
  pointwise [cut]

theorem cut3 (h) : cut 384 W h (ix3 0 r l) = W (ix2 r ⟨128 * 3 + l.val, by omega⟩) := by
  pointwise [cut]

theorem cut4 (h) : cut 512 W h (ix3 0 r l) = W (ix2 r ⟨128 * 4 + l.val, by omega⟩) := by
  pointwise [cut]

theorem cut5 (h) : cut 640 W h (ix3 0 r l) = W (ix2 r ⟨128 * 5 + l.val, by omega⟩) := by
  pointwise [cut]

theorem cut6 (h) : cut 768 W h (ix3 0 r l) = W (ix2 r ⟨128 * 6 + l.val, by omega⟩) := by
  pointwise [cut]

theorem cut7 (h) : cut 896 W h (ix3 0 r l) = W (ix2 r ⟨128 * 7 + l.val, by omega⟩) := by
  pointwise [cut]

theorem cut8 (h) : cut 1024 W h (ix3 0 r l) = W (ix2 r ⟨128 * 8 + l.val, by omega⟩) := by
  pointwise [cut]

theorem cut9 (h) : cut 1152 W h (ix3 0 r l) = W (ix2 r ⟨128 * 9 + l.val, by omega⟩) := by
  pointwise [cut]

theorem cut10 (h) : cut 1280 W h (ix3 0 r l) = W (ix2 r ⟨128 * 10 + l.val, by omega⟩) := by
  pointwise [cut]

theorem cut11 (h) : cut 1408 W h (ix3 0 r l) = W (ix2 r ⟨128 * 11 + l.val, by omega⟩) := by
  pointwise [cut]

theorem cut12 (h) : cut 1536 W h (ix3 0 r l) = W (ix2 r ⟨128 * 12 + l.val, by omega⟩) := by
  pointwise [cut]

theorem cut13 (h) : cut 1664 W h (ix3 0 r l) = W (ix2 r ⟨128 * 13 + l.val, by omega⟩) := by
  pointwise [cut]

theorem cut14 (h) : cut 1792 W h (ix3 0 r l) = W (ix2 r ⟨128 * 14 + l.val, by omega⟩) := by
  pointwise [cut]

theorem cut15 (h) : cut 1920 W h (ix3 0 r l) = W (ix2 r ⟨128 * 15 + l.val, by omega⟩) := by
  pointwise [cut]

end

theorem load_whole3 {Val : EltTy → Type} [∀ e, Nonempty (Val e)] {sig : RefSig} {κ : Kind} {sp : Space} {n k l : ℕ} {e : EltTy}
    (v : View sig κ sp (⟨3, ![n, k, l]⟩ : Shape) e) (x : (⟨3, ![n, k, l]⟩ : Shape).Idx → Val e)
    (inb : ∀ a, (![0, 0, 0] : Fin 3 → ℕ) a + (⟨3, ![n, k, l]⟩ : Shape).size a ≤ (⟨3, ![n, k, l]⟩ : Shape).size a) :
    v.readAt Val (Rect.unit (s := (⟨3, ![n, k, l]⟩ : Shape)) ![0, 0, 0] (⟨3, ![n, k, l]⟩ : Shape).size inb).toLoadRect (v.rep x) = x := by
  funext y
  rw [View.readAt_rep]
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A line of a meta plane as the body loads it: eight lines from line `2 i` of plane `k`. -/
def meta0 (i : grid0.Coords) (arg3 : Memref sig .tc .vmem S2x328x128 .f32) (x1 : S2x328x128.Idx → Elt Ideal .f32) : Vec Ideal S8x128 .f32 :=
  kernelRun0_A.sl.v120 i arg3 x1

def meta1 (i : grid0.Coords) (arg3 : Memref sig .tc .vmem S2x328x128 .f32) (x1 : S2x328x128.Idx → Elt Ideal .f32) : Vec Ideal S8x128 .f32 :=
  kernelRun0_A.sl.v129 i arg3 x1

theorem stored_A (c : Dev nD) (i : grid0.Coords) (arg2 : Memref sig .tc .vmem S4x256x128 .i32) (harg2 : arg2.IsWhole) (arg3 : Memref sig .tc .vmem S2x328x128 .f32) (harg3 : arg3.IsWhole) (arg4 : Memref sig .tc .vmem S1x2048x2048 .fp8e4m3) (harg4 : arg4.IsWhole) (arg5 : Memref sig .tc .vmem S1x1x2048 .f32) (harg5 : arg5.IsWhole) (arg6 : Memref sig .tc .vmem S1x1024x2048 .fp8e4m3) (harg6 : arg6.IsWhole) (arg7 : Memref sig .tc .vmem S1x1x2048 .f32) (harg7 : arg7.IsWhole) (arg8 : Memref sig .tc .vmem S16x256x128 .f32) (harg8 : arg8.IsWhole) (T0 : (S2x256.Idx → Elt Ideal .i32))
     (x0 : (S4x256x128.Idx → Elt Ideal .i32)) (x1 : (S2x328x128.Idx → Elt Ideal .f32)) (x2 : (S1x2048x2048.Idx → Elt Ideal .fp8e4m3)) (x3 : (S1x1x2048.Idx → Elt Ideal .f32)) (x4 : (S1x1024x2048.Idx → Elt Ideal .fp8e4m3)) (x5 : (S1x1x2048.Idx → Elt Ideal .f32)) (k0_h1 : k0_cond1 i (View.readAt (Elt Ideal) (tbM0_0).view (Rect.unit (s := S2x256) ![1, 0] S1x1.size inb_S2x256_S1x1_1_0).toLoadRect T0 (Shape.Idx.first (numel1_S1x1.symm ▸ Nat.one_pos))) = 1#1) (y : S16x256x128.Idx) :
    out0_A_6 c i arg2 harg2 arg3 harg3 arg4 harg4 arg5 harg5 arg6 harg6 arg7 harg7 arg8 harg8 T0 x0 x1 x2 x3 x4 x5 k0_h1 y
      = planes (block (meta0 i arg3 x1) (meta1 i arg3 x1) (lanes x0) x2 x3 x4 x5) y := by
  unfold out0_A_6
  rw [View.read_writes_junk_eq_canon]
  have e2 : View.readAt (Elt Ideal) arg4.view (Rect.unit (s := S1x2048x2048) ![0, 0, 0] S1x2048x2048.size inb_S1x2048x2048_S1x2048x2048_0_0_0).toLoadRect (arg4.view.rep x2) = x2 :=
    load_whole3 _ _ _
  have e3 : View.readAt (Elt Ideal) arg5.view (Rect.unit (s := S1x1x2048) ![0, 0, 0] S1x1x2048.size inb_S1x1x2048_S1x1x2048_0_0_0).toLoadRect (arg5.view.rep x3) = x3 :=
    load_whole3 _ _ _
  have e4 : View.readAt (Elt Ideal) arg6.view (Rect.unit (s := S1x1024x2048) ![0, 0, 0] S1x1024x2048.size inb_S1x1024x2048_S1x1024x2048_0_0_0).toLoadRect (arg6.view.rep x4) = x4 :=
    load_whole3 _ _ _
  have e5 : View.readAt (Elt Ideal) arg7.view (Rect.unit (s := S1x1x2048) ![0, 0, 0] S1x1x2048.size inb_S1x1x2048_S1x1x2048_0_0_0).toLoadRect (arg7.view.rep x5) = x5 :=
    load_whole3 _ _ _
  have e6 : kernelRun0_A.sl.r_12 i arg2 arg3 arg4 arg5 arg6 arg7 x0 x1 x2 x3 x4 x5
      = block (meta0 i arg3 x1) (meta1 i arg3 x1) (lanes x0) x2 x3 x4 x5 := by
    unfold kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5
    rw [e2, e3, e4, e5, scratch_eq]
    rfl
  rw [← e6]
  generalize hB : kernelRun0_A.sl.r_12 i arg2 arg3 arg4 arg5 arg6 arg7 x0 x1 x2 x3 x4 x5 = B
  refine View.canon_apply_of_pieces (Val := Elt Ideal) (e := .f32) (planes B) _ ?_ y
    (cover0_A_6 c i arg2 harg2 arg3 harg3 arg4 harg4 arg5 harg5 arg6 harg6 arg7 harg7 arg8 harg8 T0 x0 x1 x2 x3 x4 x5 k0_h1 y)
  intro p hp
  dsimp only [kernelRun0_A] at hp
  unfold kernelRun0_A.sl.HO6_16 at hp
  simp only [List.mem_cons, List.not_mem_nil, or_false] at hp
  subst hB
  rcases hp with rfl | rfl | rfl | rfl | rfl | rfl | rfl | rfl | rfl | rfl | rfl | rfl | rfl | rfl | rfl | rfl
  · exact plane_piece _ 15 (by omega) (cut 1920 (kernelRun0_A.sl.r_12 i arg2 arg3 arg4 arg5 arg6 arg7 x0 x1 x2 x3 x4 x5) slices_S256x2048_o0_1920_S256x128)
      inb_S16x256x128_S1x256x128_15_0_0 fun r l => cut15 _ r l _
  · exact plane_piece _ 14 (by omega) (cut 1792 (kernelRun0_A.sl.r_12 i arg2 arg3 arg4 arg5 arg6 arg7 x0 x1 x2 x3 x4 x5) slices_S256x2048_o0_1792_S256x128)
      inb_S16x256x128_S1x256x128_14_0_0 fun r l => cut14 _ r l _
  · exact plane_piece _ 13 (by omega) (cut 1664 (kernelRun0_A.sl.r_12 i arg2 arg3 arg4 arg5 arg6 arg7 x0 x1 x2 x3 x4 x5) slices_S256x2048_o0_1664_S256x128)
      inb_S16x256x128_S1x256x128_13_0_0 fun r l => cut13 _ r l _
  · exact plane_piece _ 12 (by omega) (cut 1536 (kernelRun0_A.sl.r_12 i arg2 arg3 arg4 arg5 arg6 arg7 x0 x1 x2 x3 x4 x5) slices_S256x2048_o0_1536_S256x128)
      inb_S16x256x128_S1x256x128_12_0_0 fun r l => cut12 _ r l _
  · exact plane_piece _ 11 (by omega) (cut 1408 (kernelRun0_A.sl.r_12 i arg2 arg3 arg4 arg5 arg6 arg7 x0 x1 x2 x3 x4 x5) slices_S256x2048_o0_1408_S256x128)
      inb_S16x256x128_S1x256x128_11_0_0 fun r l => cut11 _ r l _
  · exact plane_piece _ 10 (by omega) (cut 1280 (kernelRun0_A.sl.r_12 i arg2 arg3 arg4 arg5 arg6 arg7 x0 x1 x2 x3 x4 x5) slices_S256x2048_o0_1280_S256x128)
      inb_S16x256x128_S1x256x128_10_0_0 fun r l => cut10 _ r l _
  · exact plane_piece _ 9 (by omega) (cut 1152 (kernelRun0_A.sl.r_12 i arg2 arg3 arg4 arg5 arg6 arg7 x0 x1 x2 x3 x4 x5) slices_S256x2048_o0_1152_S256x128)
      inb_S16x256x128_S1x256x128_9_0_0 fun r l => cut9 _ r l _
  · exact plane_piece _ 8 (by omega) (cut 1024 (kernelRun0_A.sl.r_12 i arg2 arg3 arg4 arg5 arg6 arg7 x0 x1 x2 x3 x4 x5) slices_S256x2048_o0_1024_S256x128)
      inb_S16x256x128_S1x256x128_8_0_0 fun r l => cut8 _ r l _
  · exact plane_piece _ 7 (by omega) (cut 896 (kernelRun0_A.sl.r_12 i arg2 arg3 arg4 arg5 arg6 arg7 x0 x1 x2 x3 x4 x5) slices_S256x2048_o0_896_S256x128)
      inb_S16x256x128_S1x256x128_7_0_0 fun r l => cut7 _ r l _
  · exact plane_piece _ 6 (by omega) (cut 768 (kernelRun0_A.sl.r_12 i arg2 arg3 arg4 arg5 arg6 arg7 x0 x1 x2 x3 x4 x5) slices_S256x2048_o0_768_S256x128)
      inb_S16x256x128_S1x256x128_6_0_0 fun r l => cut6 _ r l _
  · exact plane_piece _ 5 (by omega) (cut 640 (kernelRun0_A.sl.r_12 i arg2 arg3 arg4 arg5 arg6 arg7 x0 x1 x2 x3 x4 x5) slices_S256x2048_o0_640_S256x128)
      inb_S16x256x128_S1x256x128_5_0_0 fun r l => cut5 _ r l _
  · exact plane_piece _ 4 (by omega) (cut 512 (kernelRun0_A.sl.r_12 i arg2 arg3 arg4 arg5 arg6 arg7 x0 x1 x2 x3 x4 x5) slices_S256x2048_o0_512_S256x128)
      inb_S16x256x128_S1x256x128_4_0_0 fun r l => cut4 _ r l _
  · exact plane_piece _ 3 (by omega) (cut 384 (kernelRun0_A.sl.r_12 i arg2 arg3 arg4 arg5 arg6 arg7 x0 x1 x2 x3 x4 x5) slices_S256x2048_o0_384_S256x128)
      inb_S16x256x128_S1x256x128_3_0_0 fun r l => cut3 _ r l _
  · exact plane_piece _ 2 (by omega) (cut 256 (kernelRun0_A.sl.r_12 i arg2 arg3 arg4 arg5 arg6 arg7 x0 x1 x2 x3 x4 x5) slices_S256x2048_o0_256_S256x128)
      inb_S16x256x128_S1x256x128_2_0_0 fun r l => cut2 _ r l _
  · exact plane_piece _ 1 (by omega) (cut 128 (kernelRun0_A.sl.r_12 i arg2 arg3 arg4 arg5 arg6 arg7 x0 x1 x2 x3 x4 x5) slices_S256x2048_o0_128_S256x128)
      inb_S16x256x128_S1x256x128_1_0_0 fun r l => cut1 _ r l _
  · exact plane_piece _ 0 (by omega) (cut 0 (kernelRun0_A.sl.r_12 i arg2 arg3 arg4 arg5 arg6 arg7 x0 x1 x2 x3 x4 x5) slices_S256x2048_o0_0_S256x128)
      inb_S16x256x128_S1x256x128_0_0_0 fun r l => cut0 _ r l _

end Cert.KernelIdeal.Run
-- ==== Proof.KI.Fetch.lean ====
module

public import proofs.«01_k».proof.Proof.KI.Planes
public import Idealize.ShloMosaic.Lib.Pipeline.ValueKit.Geometry
public import Idealize.ShloMosaic.Lib.ValueLayout

@[expose] public section

set_option maxRecDepth 16384

noncomputable section

namespace Cert.KernelIdeal.Run

open Cert.KernelIdeal Cert.KernelIdeal.Gen Idealize.ShloMosaic Idealize.ShloMosaic.TcCoe
open Cert.Table Pipeline

/-! What the tile at a point reads: its own rows of the tokens, the meta planes whole, its expert's weights and scales. -/

variable (ch : Tab) (m : (ℓ : Loc nD τ sig) → Buf (Elt Ideal) ℓ) (ρ : Dev nD → PrngReg) (c : Dev nD) (t : Fin (cfgA ch).N)

theorem index0 : ((cfgA ch).win (0 : Fin 7)).index t = ![0, min t.val (ch.n - 1), 0] := index6 ch t

theorem pt_lt : t.val < 256 := by
  have h : t.val < 160 := N_eq ch ▸ t.isLt
  omega

theorem index2 : ((cfgA ch).win (2 : Fin 7)).index t = ![ch.e ⟨t.val, pt_lt ch t⟩, 0, 0] := by
  refine (expert_at ch (crd ch t)).trans ?_
  simp only [show ((crd ch t) 0).val = t.val from crd_val ch t]

theorem index3 : ((cfgA ch).win (3 : Fin 7)).index t = ![ch.e ⟨t.val, pt_lt ch t⟩, 0, 0] := index2 ch t
theorem index4 : ((cfgA ch).win (4 : Fin 7)).index t = ![ch.e ⟨t.val, pt_lt ch t⟩, 0, 0] := index2 ch t
theorem index5 : ((cfgA ch).win (5 : Fin 7)).index t = ![ch.e ⟨t.val, pt_lt ch t⟩, 0, 0] := index2 ch t

/-- The expert of the tile at a point. -/
def expert : Fin 32 := ⟨ch.e ⟨t.val, pt_lt ch t⟩, ch.e_lt _ (N_eq ch ▸ t.isLt)⟩

theorem fetch0 (ht : t.val < ch.n) (k : Fin 4) (r : Fin 256) (l : Fin 128) (hr : 256 * t.val + r.val < 40960) :
    iblk ch m ρ c (0 : Fin 7) t (ix3 k r l : S4x256x128.Idx)
      = m ((c : Thread nD τ).loc main_arg1) (ix3 k ⟨256 * t.val + r.val, hr⟩ l : S4x40960x128.Idx) := by
  refine congrArg (m ((c : Thread nD τ).loc main_arg1)) (funext fun a => Fin.ext ?_)
  refine (Window.rect_emb_val ((cfgA ch).win (0 : Fin 7)) t _ a).trans ?_
  rw [index0]
  match a with
  | ⟨0, _⟩ => show 0 * 4 + k.val = k.val; omega
  | ⟨1, _⟩ => show min t.val (ch.n - 1) * 256 + r.val = 256 * t.val + r.val; rw [Nat.min_eq_left (by omega)]; omega
  | ⟨2, _⟩ => show 0 * 128 + l.val = l.val; omega

theorem fetch1 (i : S2x328x128.Idx) : iblk ch m ρ c (1 : Fin 7) t i = m ((c : Thread nD τ).loc main_arg2) i := by
  refine congrArg (m ((c : Thread nD τ).loc main_arg2)) (funext fun a => Fin.ext ?_)
  refine (Window.rect_emb_val ((cfgA ch).win (1 : Fin 7)) t _ a).trans ?_
  match a with
  | ⟨0, _⟩ => show 0 * 2 + (i 0).val = (i 0).val; omega
  | ⟨1, _⟩ => show 0 * 328 + (i 1).val = (i 1).val; omega
  | ⟨2, _⟩ => show 0 * 128 + (i 2).val = (i 2).val; omega

theorem fetch2 (x : Fin 2048) (j : Fin 2048) : iblk ch m ρ c (2 : Fin 7) t (ix3 0 x j : S1x2048x2048.Idx)
    = m ((c : Thread nD τ).loc main_arg3) (ix3 (expert ch t) x j : S32x2048x2048.Idx) := by
  refine congrArg (m ((c : Thread nD τ).loc main_arg3)) (funext fun a => Fin.ext ?_)
  refine (Window.rect_emb_val ((cfgA ch).win (2 : Fin 7)) t _ a).trans ?_
  rw [index2]
  match a with
  | ⟨0, _⟩ => show ch.e _ * 1 + 0 = ch.e _; omega
  | ⟨1, _⟩ => show 0 * 2048 + x.val = x.val; omega
  | ⟨2, _⟩ => show 0 * 2048 + j.val = j.val; omega

theorem fetch3 (j : Fin 2048) : iblk ch m ρ c (3 : Fin 7) t (ix3 0 0 j : S1x1x2048.Idx)
    = m ((c : Thread nD τ).loc main_arg4) (ix3 (expert ch t) 0 j : S32x1x2048.Idx) := by
  refine congrArg (m ((c : Thread nD τ).loc main_arg4)) (funext fun a => Fin.ext ?_)
  refine (Window.rect_emb_val ((cfgA ch).win (3 : Fin 7)) t _ a).trans ?_
  rw [index3]
  match a with
  | ⟨0, _⟩ => show ch.e _ * 1 + 0 = ch.e _; omega
  | ⟨1, _⟩ => show 0 * 1 + 0 = 0; omega
  | ⟨2, _⟩ => show 0 * 2048 + j.val = j.val; omega

theorem fetch4 (x : Fin 1024) (j : Fin 2048) : iblk ch m ρ c (4 : Fin 7) t (ix3 0 x j : S1x1024x2048.Idx)
    = m ((c : Thread nD τ).loc main_arg5) (ix3 (expert ch t) x j : S32x1024x2048.Idx) := by
  refine congrArg (m ((c : Thread nD τ).loc main_arg5)) (funext fun a => Fin.ext ?_)
  refine (Window.rect_emb_val ((cfgA ch).win (4 : Fin 7)) t _ a).trans ?_
  rw [index4]
  match a with
  | ⟨0, _⟩ => show ch.e _ * 1 + 0 = ch.e _; omega
  | ⟨1, _⟩ => show 0 * 1024 + x.val = x.val; omega
  | ⟨2, _⟩ => show 0 * 2048 + j.val = j.val; omega

theorem fetch5 (j : Fin 2048) : iblk ch m ρ c (5 : Fin 7) t (ix3 0 0 j : S1x1x2048.Idx)
    = m ((c : Thread nD τ).loc main_arg6) (ix3 (expert ch t) 0 j : S32x1x2048.Idx) := by
  refine congrArg (m ((c : Thread nD τ).loc main_arg6)) (funext fun a => Fin.ext ?_)
  refine (Window.rect_emb_val ((cfgA ch).win (5 : Fin 7)) t _ a).trans ?_
  rw [index5]
  match a with
  | ⟨0, _⟩ => show ch.e _ * 1 + 0 = ch.e _; omega
  | ⟨1, _⟩ => show 0 * 1 + 0 = 0; omega
  | ⟨2, _⟩ => show 0 * 2048 + j.val = j.val; omega

/-- Line `a` of the eight the body loads of a meta plane. -/
theorem meta0_apply (i : grid0.Coords) (arg3 : Memref sig .tc .vmem S2x328x128 .f32) (x1 : S2x328x128.Idx → Elt Ideal .f32) (a : Fin 8) (l : Fin 128)
    (ha : 2 * (i 0).val + a.val < 328) : meta0 i arg3 x1 (ix2 a l) = x1 (ix3 0 ⟨2 * (i 0).val + a.val, ha⟩ l) := by
  unfold meta0 kernelRun0_A.sl.v120
  rw [View.readAt_apply]
  have e : (Rect.unit (s := S328x128) (k0_off2 i) S8x128.size (k0_off2_inb i)).toLoadRect.idx (ix2 a l : S8x128.Idx)
      = (ix2 ⟨2 * (i 0).val + a.val, ha⟩ l : S328x128.Idx) := by
    funext b
    refine Fin.ext ?_
    refine (congrArg (· + 1 * ((ix2 a l : S8x128.Idx) b).val) (congrFun (k0_off2_eq i) b)).trans ?_
    match b with
    | ⟨0, _⟩ => show 2 * (i 0).val + 1 * a.val = _; show _ = 2 * (i 0).val + a.val; omega
    | ⟨1, _⟩ => show 0 + 1 * l.val = l.val; omega
  rw [e]
  have e2 : Shape.reshapeEquiv squeezes_S1x328x128_S328x128.numel_eq (ix2 ⟨2 * (i 0).val + a.val, ha⟩ l : S328x128.Idx)
      = (ix3 0 ⟨2 * (i 0).val + a.val, ha⟩ l : S1x328x128.Idx) := ValueIdx.reshapeEquiv_ix2_1ab _ _ _
  show arg3.view.read (Elt Ideal) (arg3.view.rep x1)
    ((Rect.unit (s := S2x328x128) ![0, 0, 0] S1x328x128.size inb_S2x328x128_S1x328x128_0_0_0).emb
      (Shape.reshapeEquiv squeezes_S1x328x128_S328x128.numel_eq (ix2 ⟨2 * (i 0).val + a.val, ha⟩ l : S328x128.Idx))) = _
  rw [View.read_rep, e2]
  refine congrArg x1 (funext fun b => Fin.ext ?_)
  rw [Rect.emb_apply]
  match b with
  | ⟨0, _⟩ => rfl
  | ⟨1, _⟩ => show 0 + 1 * (2 * (i 0).val + a.val) = 2 * (i 0).val + a.val; omega
  | ⟨2, _⟩ => show 0 + 1 * l.val = l.val; omega

theorem meta1_apply (i : grid0.Coords) (arg3 : Memref sig .tc .vmem S2x328x128 .f32) (x1 : S2x328x128.Idx → Elt Ideal .f32) (a : Fin 8) (l : Fin 128)
    (ha : 2 * (i 0).val + a.val < 328) : meta1 i arg3 x1 (ix2 a l) = x1 (ix3 1 ⟨2 * (i 0).val + a.val, ha⟩ l) := by
  unfold meta1 kernelRun0_A.sl.v129
  rw [View.readAt_apply]
  have e : (Rect.unit (s := S328x128) (k0_off2 i) S8x128.size (k0_off2_inb i)).toLoadRect.idx (ix2 a l : S8x128.Idx)
      = (ix2 ⟨2 * (i 0).val + a.val, ha⟩ l : S328x128.Idx) := by
    funext b
    refine Fin.ext ?_
    refine (congrArg (· + 1 * ((ix2 a l : S8x128.Idx) b).val) (congrFun (k0_off2_eq i) b)).trans ?_
    match b with
    | ⟨0, _⟩ => show 2 * (i 0).val + 1 * a.val = _; show _ = 2 * (i 0).val + a.val; omega
    | ⟨1, _⟩ => show 0 + 1 * l.val = l.val; omega
  rw [e]
  have e2 : Shape.reshapeEquiv squeezes_S1x328x128_S328x128.numel_eq (ix2 ⟨2 * (i 0).val + a.val, ha⟩ l : S328x128.Idx)
      = (ix3 0 ⟨2 * (i 0).val + a.val, ha⟩ l : S1x328x128.Idx) := ValueIdx.reshapeEquiv_ix2_1ab _ _ _
  show arg3.view.read (Elt Ideal) (arg3.view.rep x1)
    ((Rect.unit (s := S2x328x128) ![1, 0, 0] S1x328x128.size inb_S2x328x128_S1x328x128_1_0_0).emb
      (Shape.reshapeEquiv squeezes_S1x328x128_S328x128.numel_eq (ix2 ⟨2 * (i 0).val + a.val, ha⟩ l : S328x128.Idx))) = _
  rw [View.read_rep, e2]
  refine congrArg x1 (funext fun b => Fin.ext ?_)
  rw [Rect.emb_apply]
  match b with
  | ⟨0, _⟩ => rfl
  | ⟨1, _⟩ => show 0 + 1 * (2 * (i 0).val + a.val) = 2 * (i 0).val + a.val; omega
  | ⟨2, _⟩ => show 0 + 1 * l.val = l.val; omega

end Cert.KernelIdeal.Run
-- ==== Proof.KI.Array.lean ====
module

public import proofs.«01_k».proof.Proof.KI.Fetch

@[expose] public section

set_option maxRecDepth 16384

noncomputable section

namespace Cert.KernelIdeal.Run

open Cert.KernelIdeal Cert.KernelIdeal.Gen Idealize.ShloMosaic Idealize.ShloMosaic.TcCoe
open Cert.Table Pipeline

/-! The output array of the kernel: on the rows of the tiles in use, each row is `Row.out` of the row's words, scale and
gate and of the weights of its tile's expert. -/

variable (ch : Tab) (m : (ℓ : Loc nD τ sig) → Buf (Elt Ideal) ℓ) (ρ : Dev nD → PrngReg) (c : Dev nD)

/-- Row `r` of the result at expert `e`. -/
def rowOf (e : Fin 32) (r : Fin 40960) (j : Fin 2048) : EReal := Row.out
  (fun k => Ideal.ofBits .fp8e4m3 (((m ((c : Thread nD τ).loc main_arg1) : IVec S4x40960x128 32)
    (ix3 ⟨k.val / 512, by omega⟩ r ⟨k.val % 128, by omega⟩)).extractLsb' (k.val / 128 % 4 * 8) 8))
  ((m ((c : Thread nD τ).loc main_arg2) : FVec Ideal S2x328x128 .f32) (ix3 0 ⟨r.val / 128, by omega⟩ ⟨r.val % 128, by omega⟩))
  ((m ((c : Thread nD τ).loc main_arg2) : FVec Ideal S2x328x128 .f32) (ix3 1 ⟨r.val / 128, by omega⟩ ⟨r.val % 128, by omega⟩))
  (fun x j => (m ((c : Thread nD τ).loc main_arg3) : FVec Ideal S32x2048x2048 .fp8e4m3) (ix3 e x j))
  (fun j => (m ((c : Thread nD τ).loc main_arg4) : FVec Ideal S32x1x2048 .f32) (ix3 e 0 j))
  (fun x j => (m ((c : Thread nD τ).loc main_arg5) : FVec Ideal S32x1024x2048 .fp8e4m3) (ix3 e x j))
  (fun j => (m ((c : Thread nD τ).loc main_arg6) : FVec Ideal S32x1x2048 .f32) (ix3 e 0 j)) j

/-- The whole array these rows make, row `r` at the expert of tile `r / 256`. -/
def whole (i : S16x40960x128.Idx) : EReal :=
  rowOf m c ⟨ch.e ⟨(i 1).val / 256, by have h : (i 1).val < 40960 := (i 1).isLt; omega⟩, ch.e_lt _ (by have h : (i 1).val < 40960 := (i 1).isLt; show (i 1).val / 256 < 160; omega)⟩ (i 1)
    ⟨128 * (i 0).val + (i 2).val, by
      have h0 : (i 0).val < 16 := (i 0).isLt
      have h2 : (i 2).val < 128 := (i 2).isLt
      omega⟩

theorem side_meta (v : Vec Ideal S8x128 .f32) (X : Fin 328 → Fin 128 → EReal) (b : ℕ) (hb : b < 160)
    (h : ∀ (a : Fin 8) (l : Fin 128) (ha : 2 * b + a.val < 328), v (ix2 a l) = X ⟨2 * b + a.val, ha⟩ l) (r : Fin 256) :
    side v r = X ⟨(256 * b + r.val) / 128, by omega⟩ ⟨(256 * b + r.val) % 128, by omega⟩ := by
  unfold side
  split
  · rename_i hr
    rw [h 0 _ (by show 2 * b + 0 < 328; omega)]
    congr 1
    · apply Fin.ext; show 2 * b + 0 = (256 * b + r.val) / 128; omega
    · apply Fin.ext; show r.val = (256 * b + r.val) % 128; omega
  · rename_i hr
    rw [h 1 _ (by show 2 * b + 1 < 328; omega)]
    congr 1
    · apply Fin.ext; show 2 * b + 1 = (256 * b + r.val) / 128; omega
    · apply Fin.ext; show r.val - 128 = (256 * b + r.val) % 128; omega

/-- What the body computes at point `t`, before it is cut into planes. -/
def tile (t : Fin (cfgA ch).N) : FVec Ideal S256x2048 .f32 :=
  block (meta0 (crd ch t) (ms0_1 ch t) (iblk ch m ρ c (1 : Fin 7) t)) (meta1 (crd ch t) (ms0_1 ch t) (iblk ch m ρ c (1 : Fin 7) t))
    (lanes (iblk ch m ρ c (0 : Fin 7) t)) (iblk ch m ρ c (2 : Fin 7) t) (iblk ch m ρ c (3 : Fin 7) t) (iblk ch m ρ c (4 : Fin 7) t)
    (iblk ch m ρ c (5 : Fin 7) t)

theorem tile_apply (t : Fin (cfgA ch).N) (ht : t.val < ch.n) (r : Fin 256) (j : Fin 2048) (hr : 256 * t.val + r.val < 40960) :
    tile ch m ρ c t (ix2 r j) = rowOf m c (expert ch t) ⟨256 * t.val + r.val, hr⟩ j := by
  have hN : t.val < 160 := N_eq ch ▸ t.isLt
  have hc : ((crd ch t) (0 : Fin 1)).val = t.val := crd_val ch t
  unfold tile
  rw [block_apply]
  have hq : (fun x => lanes (iblk ch m ρ c (0 : Fin 7) t) (ix2 r x)) = fun k : Fin 2048 => Ideal.ofBits .fp8e4m3 (((m ((c : Thread nD τ).loc main_arg1) : IVec S4x40960x128 32)
      (ix3 ⟨k.val / 512, by omega⟩ ⟨256 * t.val + r.val, hr⟩ ⟨k.val % 128, by omega⟩)).extractLsb' (k.val / 128 % 4 * 8) 8) := by
    funext k
    exact congrArg (byte · (k.val / 128 % 4)) (fetch0 ch m ρ c t ht ⟨k.val / 512, by omega⟩ r ⟨k.val % 128, by omega⟩ hr)
  have h0 := side_meta (meta0 (crd ch t) (ms0_1 ch t) (iblk ch m ρ c (1 : Fin 7) t))
    (fun a l => (m ((c : Thread nD τ).loc main_arg2) : FVec Ideal S2x328x128 .f32) (ix3 0 a l)) t.val hN
    (fun a l ha => by
      rw [meta0_apply _ _ _ a l (by rw [hc]; exact ha), fetch1]
      simp only [hc]) r
  have h1 := side_meta (meta1 (crd ch t) (ms0_1 ch t) (iblk ch m ρ c (1 : Fin 7) t))
    (fun a l => (m ((c : Thread nD τ).loc main_arg2) : FVec Ideal S2x328x128 .f32) (ix3 1 a l)) t.val hN
    (fun a l ha => by
      rw [meta1_apply _ _ _ a l (by rw [hc]; exact ha), fetch1]
      simp only [hc]) r
  rw [hq, h0, h1]
  simp only [fetch2, fetch3, fetch4, fetch5]
  rfl

set_option maxHeartbeats 4000000 in
theorem traj_used (t : Fin (cfgA ch).N) (q : P0_0 ch t) : (traj0 ch m ρ c t.val t.isLt).1
    = out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.1 (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q).1 := by
  rw [traj0_eq, step0_A ch m ρ c t _ q]

theorem stored_used (t : Fin (cfgA ch).N) (q : P0_0 ch t) : out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.1 (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q).1
    = planes (tile ch m ρ c t) :=
  funext fun y => stored_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) ch.1 (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q).1 y

/-- The output's buffer after a tile in use; -/
theorem after_used (t : Fin (cfgA ch).N) (ht : t.val < ch.n) : (dats ch m ρ 0 c).after (6 : Fin 7) t = planes (tile ch m ρ c t) :=
  (after0_6 ch m ρ c t).trans ((traj_used ch m ρ c t ((P0_iff ch t).2 ht)).trans (stored_used ch m ρ c t ((P0_iff ch t).2 ht)))

/-- after the later ones it is what the last tile in use left. -/
theorem after_last (k : ℕ) : ∀ h : ch.n - 1 + k < (cfgA ch).N, (dats ch m ρ 0 c).after (6 : Fin 7) ⟨ch.n - 1 + k, h⟩
    = planes (tile ch m ρ c ⟨ch.n - 1, Nat.lt_of_le_of_lt (Nat.le_add_right _ _) h⟩) := by
  have hp := ch.n_pos
  induction k with
  | zero => intro h; exact after_used ch m ρ c ⟨ch.n - 1, h⟩ (by show ch.n - 1 < ch.n; omega)
  | succ k ih =>
    intro h
    have hn : ¬ P0_0 ch ⟨ch.n - 1 + (k + 1), h⟩ := fun q => by
      have := (P0_iff ch _).1 q
      change ch.n - 1 + (k + 1) < ch.n at this
      omega
    obtain ⟨hi, hf, -, -⟩ := sched0_B ch _ hn
    rw [hcarry0_6 ch m ρ c _ (by show ch.n - 1 + (k + 1) ≠ 0; omega) hi hf]
    exact ih (Nat.lt_of_succ_lt h)

/-- The tile whose result the buffer holds after point `t`. -/
def held (t : Fin (cfgA ch).N) : Fin (cfgA ch).N := ⟨min t.val (ch.n - 1), Nat.lt_of_le_of_lt (Nat.min_le_left _ _) t.isLt⟩

theorem after_eq (t : Fin (cfgA ch).N) : (dats ch m ρ 0 c).after (6 : Fin 7) t = planes (tile ch m ρ c (held ch t)) := by
  have hp := ch.n_pos
  by_cases h : t.val < ch.n
  · rw [after_used ch m ρ c t h]
    congr 2
    apply Fin.ext
    show t.val = min t.val (ch.n - 1)
    omega
  · obtain ⟨k, hk⟩ : ∃ k, t.val = ch.n - 1 + k := ⟨t.val - (ch.n - 1), by omega⟩
    have hlt : ch.n - 1 + k < (cfgA ch).N := hk ▸ t.isLt
    obtain rfl : t = ⟨ch.n - 1 + k, hlt⟩ := Fin.ext hk
    rw [after_last ch m ρ c k hlt]
    congr 2
    apply Fin.ext
    show ch.n - 1 = min (ch.n - 1 + k) (ch.n - 1)
    omega

/-- Every write-back puts back its block of the whole array. -/
theorem flushed_eq (t : Fin (cfgA ch).N) :
    (dats ch m ρ 0 c).flushed (6 : Fin 7) t = (((cfgA ch).win (6 : Fin 7)).blk t).view.read (Elt Ideal) (whole ch m c) := by
  have hp := ch.n_pos
  have hl := ch.n_le
  funext y
  obtain ⟨p, r, l, rfl⟩ : ∃ (p : Fin 16) (r : Fin 256) (l : Fin 128), y = (ix3 p r l : S16x256x128.Idx) := ⟨y 0, y 1, y 2, by
    funext a
    match a with
    | ⟨0, _⟩ => rfl
    | ⟨1, _⟩ => rfl
    | ⟨2, _⟩ => rfl⟩
  show (dats ch m ρ 0 c).after (6 : Fin 7) t (ix3 p r l : S16x256x128.Idx) = whole ch m c ((((cfgA ch).win (6 : Fin 7)).rect t).emb (ix3 p r l : S16x256x128.Idx))
  have hh : (held ch t).val = min t.val (ch.n - 1) := rfl
  have hx : ((((cfgA ch).win (6 : Fin 7)).rect t).emb (ix3 p r l : S16x256x128.Idx))
      = (ix3 p ⟨256 * (held ch t).val + r.val, by omega⟩ l : S16x40960x128.Idx) := by
    funext a
    refine Fin.ext ((Window.rect_emb_val ((cfgA ch).win (6 : Fin 7)) t _ a).trans ?_)
    rw [index6]
    match a with
    | ⟨0, _⟩ => show 0 * 16 + p.val = p.val; omega
    | ⟨1, _⟩ => show min t.val (ch.n - 1) * 256 + r.val = 256 * min t.val (ch.n - 1) + r.val; omega
    | ⟨2, _⟩ => show 0 * 128 + l.val = l.val; omega
  rw [hx, after_eq]
  refine (tile_apply ch m ρ c (held ch t) (by omega) r ⟨128 * p.val + l.val, by omega⟩ (by omega)).trans ?_
  show rowOf m c _ _ _ = rowOf m c _ _ _
  congr 1
  apply Fin.ext
  show ch.e _ = ch.e _
  congr 1
  apply Fin.ext
  show (held ch t).val = (256 * (held ch t).val + r.val) / 256
  omega

/-- On the rows of the tiles in use the array ends at `whole`. -/
theorem array_apply (i : S16x40960x128.Idx) (hi : (i 1).val < 256 * ch.n) :
    (dats ch m ρ 0 c).arrAt (6 : Fin 7) (cfgA ch).N i = whole ch m c i := by
  have hp := ch.n_pos
  have hl := ch.n_le
  have hN := N_eq ch
  -- the tile of the row is written back at once, or at the end of the grid if it is the last one in use
  obtain ⟨t, hf, ht⟩ : ∃ t : Fin (cfgA ch).N, ((cfgA ch).win (6 : Fin 7)).flush t = true ∧ min t.val (ch.n - 1) = (i 1).val / 256 := by
    by_cases h : (i 1).val / 256 + 1 < ch.n
    · refine ⟨⟨(i 1).val / 256, by omega⟩, ?_, ?_⟩
      · rw [flush6]; exact decide_eq_true (.inl h)
      · show min ((i 1).val / 256) (ch.n - 1) = (i 1).val / 256; omega
    · refine ⟨⟨159, by omega⟩, ?_, ?_⟩
      · rw [flush6]; exact decide_eq_true (.inr rfl)
      · show min 159 (ch.n - 1) = (i 1).val / 256; omega
  refine (dats ch m ρ 0 c).arrAt_apply_of_mem (6 : Fin 7) (whole ch m c) (fun t _ => flushed_eq ch m ρ c t) _ t i t.isLt hf ?_
  have hx : i = ((((cfgA ch).win (6 : Fin 7)).rect t).emb (ix3 (i 0) ⟨(i 1).val % 256, by omega⟩ (i 2) : S16x256x128.Idx)) := by
    funext a
    refine Fin.ext (Eq.symm ((Window.rect_emb_val ((cfgA ch).win (6 : Fin 7)) t _ a).trans ?_))
    rw [index6]
    match a with
    | ⟨0, _⟩ => show 0 * 16 + (i 0).val = (i 0).val; omega
    | ⟨1, _⟩ => show min t.val (ch.n - 1) * 256 + (i 1).val % 256 = (i 1).val; rw [ht]; omega
    | ⟨2, _⟩ => show 0 * 128 + (i 2).val = (i 2).val; omega
  rw [hx]
  exact View.emb_mem_set (((cfgA ch).win (6 : Fin 7)).blk t).view _

end Cert.KernelIdeal.Run
-- ==== Proof.KI.Value.lean ====
module

public import proofs.«01_k».proof.Proof.KI.Array
public import proofs.«01_k».proof.Proof.Gen.On_rows_in_use

@[expose] public section

set_option maxRecDepth 16384

noncomputable section

namespace Cert.KernelIdeal.Run

open Cert.KernelIdeal Cert.KernelIdeal.Gen Idealize.ShloMosaic Idealize.ShloMosaic.TcCoe
open Idealize.SL.Sem
open Cert.Table

/-! The kernel's run with its result named on the rows in use, and the reference's result as the same rows. -/

/-- The mask selects the rows of the tiles in use. -/
theorem mask_lt (ch : Tab) (x1 : IVec S4x40960x128 32) (x2 : FVec Ideal S2x328x128 .f32) (x3 : FVec Ideal S32x2048x2048 .fp8e4m3)
    (x4 : FVec Ideal S32x1x2048 .f32) (x5 : FVec Ideal S32x1024x2048 .fp8e4m3) (x6 : FVec Ideal S32x1x2048 .f32)
    (i : S16x40960x128.Idx) (h : Cert.On_rows_in_use.fn (F := Ideal) ch.1 x1 x2 x3 x4 x5 x6 i = 1#1) : (i 1).val < 256 * ch.n := by
  have hi : (i 1).val < 40960 := (i 1).isLt
  have hn : ch.n ≤ 160 := ch.n_le
  unfold Cert.On_rows_in_use.fn at h
  have hs := IntOp.cmpi_slt.1 h
  have hk : ∀ j, (muli (minsi (shapeCast Cert.On_rows_in_use.S_ (extractStridedSlice Cert.On_rows_in_use.S1x1 ![1, 0] ch.1 Cert.On_rows_in_use.Facts.slices_S2x256_S1x1_1_0)
      Cert.On_rows_in_use.Facts.shapeCasts_S1x1_S_) (constantI Cert.On_rows_in_use.S_ 32 160#32)) (constantI Cert.On_rows_in_use.S_ 32 256#32) : IVec Cert.On_rows_in_use.S_ 32) j
        = IntOp.minsi (ch.1 (ValueIdx.ix2 1 0)) 160#32 * 256#32 :=
    fun j => congrArg (IntOp.minsi · 160#32 * 256#32) (count_read _ _ j)
  change (BitVec.ofNat 32 (i 1).val).toInt < BitVec.toInt ((muli _ _ : IVec Cert.On_rows_in_use.S_ 32) _) at hs
  rw [hk] at hs
  have e1 : (BitVec.ofNat 32 (i 1).val).toNat = (i 1).val := by rw [BitVec.toNat_ofNat]; omega
  have e2 : (IntOp.minsi (ch.1 (ValueIdx.ix2 1 0)) 160#32 * 256#32).toNat = ch.n * 256 := by
    rw [BitVec.toNat_mul, cut_toNat ch.2.small]; show ch.n * 256 % _ = _; omega
  rw [toInt_small (by omega), toInt_small (by omega), e1, e2] at hs
  omega

variable (ch : Tab) (m : (ℓ : Loc nD τ sig) → Buf (Elt Ideal) ℓ) (ρ : Dev nD → PrngReg)

/-- The kernel's run: on the rows of the tiles in use its result is `whole`. -/
theorem run_value (hp : Pinned ch m) : θ_run (defs (F := Ideal)) (onTc (τ := τ) (main (F := Ideal))) ⟨m, fun _ => 0, ρ⟩ fun r => ∀ c : Dev nD,
    ∀ i : S16x40960x128.Idx, (i 1).val < 256 * ch.n → r.2.mem ((c.tc : Thread nD τ).loc main_v0) i = whole ch m c i :=
  (θ_run defs _ _).mono (fun _ h c i hi => (congrFun ((h c).1 (6 : Fin 7)) i).trans (array_apply ch m ρ c i hi)) (run_main ch m ρ hp)

/-- The reference's result, from a memory that holds the same arguments. -/
theorem reference_whole (m' : (ℓ : Loc ReferenceIdeal.nD ReferenceIdeal.τ ReferenceIdeal.sig) → Buf (Elt Ideal) ℓ) (c : Dev nD)
    (hp : m ((c.tc : Thread nD τ).loc main_arg0) = ch.1)
    (h0 : m' ((c.tc : Thread ReferenceIdeal.nD ReferenceIdeal.τ).loc ReferenceIdeal.main_arg0) = m ((c.tc : Thread nD τ).loc main_arg0))
    (h1 : m' ((c.tc : Thread ReferenceIdeal.nD ReferenceIdeal.τ).loc ReferenceIdeal.main_arg1) = m ((c.tc : Thread nD τ).loc main_arg1))
    (h2 : m' ((c.tc : Thread ReferenceIdeal.nD ReferenceIdeal.τ).loc ReferenceIdeal.main_arg2) = m ((c.tc : Thread nD τ).loc main_arg2))
    (h3 : m' ((c.tc : Thread ReferenceIdeal.nD ReferenceIdeal.τ).loc ReferenceIdeal.main_arg3) = m ((c.tc : Thread nD τ).loc main_arg3))
    (h4 : m' ((c.tc : Thread ReferenceIdeal.nD ReferenceIdeal.τ).loc ReferenceIdeal.main_arg4) = m ((c.tc : Thread nD τ).loc main_arg4))
    (h5 : m' ((c.tc : Thread ReferenceIdeal.nD ReferenceIdeal.τ).loc ReferenceIdeal.main_arg5) = m ((c.tc : Thread nD τ).loc main_arg5))
    (h6 : m' ((c.tc : Thread ReferenceIdeal.nD ReferenceIdeal.τ).loc ReferenceIdeal.main_arg6) = m ((c.tc : Thread nD τ).loc main_arg6)) :
    ReferenceIdeal.Run.planes (ReferenceIdeal.Run.result m' c) = whole ch m c := by
  funext i
  have hi : (i 1).val < 40960 := (i 1).isLt
  have hw : (⟨(i 1).val / 256, by omega⟩ : Fin 256).val < 160 := by show (i 1).val / 256 < 160; omega
  have he : (m' ((c.tc : Thread ReferenceIdeal.nD ReferenceIdeal.τ).loc ReferenceIdeal.main_arg0) : IVec ReferenceIdeal.S2x256 32)
      (ix2 0 ⟨(i 1).val / 256, by omega⟩) = BitVec.ofNat 32 (ch.e ⟨(i 1).val / 256, by omega⟩) := by
    rw [h0, hp]
    apply BitVec.eq_of_toNat_eq
    rw [BitVec.toNat_ofNat, Nat.mod_eq_of_lt (Nat.lt_trans (ch.e_lt _ hw) (by decide))]
    rfl
  refine (ReferenceIdeal.Run.result_row m' c (i 1) ⟨ch.e ⟨(i 1).val / 256, by omega⟩, ch.e_lt _ hw⟩ he _).trans ?_
  unfold whole rowOf
  rw [← h1, ← h2, ← h3, ← h4, ← h5, ← h6]

end Cert.KernelIdeal.Run
-- ==== Proof.lean ====
module

public import proofs.«01_k».proof.Defs
public import proofs.«01_k».proof.Proof.Table
public import proofs.«01_k».proof.Proof.K.Frame
public import proofs.«01_k».proof.Proof.KI.Frame
public import proofs.«01_k».proof.Proof.Ref.Value
public import proofs.«01_k».proof.Proof.KI.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tables
public import proofs.«01_k».proof.Proof.Gen.On_rows_in_use
public import Idealize.ShloMosaic.Adequacy
public import Idealize.ShloMosaic.Init

@[expose] public section

noncomputable section

namespace Cert.Proof

open Idealize.ShloMosaic Idealize.SL.Sem

theorem frame_Kernel : Cert.quiescent_Kernel := fun m g h =>
  Cert.Kernel.Run.frame ⟨_, Cert.Table.good_of_pre (h 0)⟩ m g fun c => by rw [Subsingleton.elim c 0]

theorem frame_KernelIdeal : Cert.quiescent_KernelIdeal := fun m g h =>
  Cert.KernelIdeal.Run.frame ⟨_, Cert.Table.good_of_pre (h 0)⟩ m g fun c => by rw [Subsingleton.elim c 0]

theorem frame_ReferenceIdeal : Cert.quiescent_ReferenceIdeal := fun m g _ => Cert.ReferenceIdeal.Gen.frame m g

theorem frame_ReferenceIdeal_tables : Cert.quiescent_ReferenceIdeal_pre_tables := fun m g _ => Cert.ReferenceIdeal.Gen.frame m g

/-- On the rows in use both results are `whole`. -/
theorem algebraic : Cert.algebraic_KernelIdeal_ReferenceIdeal_on_rows_in_use := by
  intro m g m' g' h ha
  let ch : Cert.Table.Tab := ⟨_, Cert.Table.good_of_pre (h 0)⟩
  have hp : Cert.KernelIdeal.Run.Pinned ch m := fun c => by rw [Subsingleton.elim c 0]
  refine ⟨fun c => Cert.KernelIdeal.Run.whole ch m c, ?_, ?_⟩
  · refine (θ_run Cert.KernelIdeal.defs _ _).mono (fun r hr c => ⟨fun i hi => ?_, hr.2 c⟩)
      (θ_run_and (Cert.KernelIdeal.Run.run_value ch m g hp) (Cert.KernelIdeal.Run.unchanged ch m g hp))
    have hx := hp c
    change m (c.tc.loc Cert.KernelIdeal.main_arg0) = ch.1 at hx
    rw [hx] at hi
    exact hr.1 c i (Cert.KernelIdeal.Run.mask_lt ch (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) i hi)
  · refine (θ_run Cert.ReferenceIdeal.defs _ _).mono (fun r hr c => ⟨fun i _ => ?_, (hr c).2⟩) (Cert.ReferenceIdeal.Run.run m' g')
    obtain ⟨h0, h1, h2, h3, h4, h5, h6⟩ := ha c
    exact congrFun ((hr c).1.trans (Cert.KernelIdeal.Run.reference_whole ch m m' c (hp c) h0 h1 h2 h3 h4 h5 h6)) i

theorem claim : Cert.Claim := ⟨Cert.Kernel.Gen.facts, Cert.KernelIdeal.Gen.facts, Cert.ReferenceIdeal.Gen.facts, Cert.Pre_tables.Gen.facts,
  Cert.On_rows_in_use.Gen.facts, frame_Kernel, frame_KernelIdeal, frame_ReferenceIdeal, frame_ReferenceIdeal_tables, trivial, algebraic⟩

end Cert.Proof

end
